-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_overflow [hPre_no_overflow : Cert.Pre_no_overflow.Facts] (m : (ℓ : Loc Cert.KernelIdeal.nD Cert.KernelIdeal.τ Cert.KernelIdeal.sig) → Buf (Elt Ideal) ℓ) : Prop :=
  ∀ c : Dev Cert.KernelIdeal.nD,
    (Cert.Pre_no_overflow.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_overflow [hPre_no_overflow : Cert.Pre_no_overflow.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_overflow.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_no_overflow [hKernelIdeal : Cert.KernelIdeal.Facts] [hPre_no_overflow : Cert.Pre_no_overflow.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_overflow m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_no_overflow [hReferenceIdeal : Cert.ReferenceIdeal.Facts] [hPre_no_overflow : Cert.Pre_no_overflow.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_overflow m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_no_overflow [hKernelIdeal : Cert.KernelIdeal.Facts] [hReferenceIdeal : Cert.ReferenceIdeal.Facts] [hPre_no_overflow : Cert.Pre_no_overflow.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_overflow m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_no_overflow : Cert.Pre_no_overflow.Facts),
    quiescent_Kernel (hKernel := hKernel)
    ∧ quiescent_KernelIdeal (hKernelIdeal := hKernelIdeal)
    ∧ quiescent_KernelIdeal_pre_no_overflow (hKernelIdeal := hKernelIdeal) (hPre_no_overflow := hPre_no_overflow)
    ∧ quiescent_ReferenceIdeal (hReferenceIdeal := hReferenceIdeal)
    ∧ quiescent_ReferenceIdeal_pre_no_overflow (hReferenceIdeal := hReferenceIdeal) (hPre_no_overflow := hPre_no_overflow)
    ∧ preserves_Kernel_KernelIdeal
    ∧ algebraic_KernelIdeal_ReferenceIdeal_pre_no_overflow (hKernelIdeal := hKernelIdeal) (hReferenceIdeal := hReferenceIdeal) (hPre_no_overflow := hPre_no_overflow)
-- ==== Pre_no_overflow.lean ====
abbrev S24x1024x7168 : Shape := ⟨3, ![24, 1024, 7168]⟩
abbrev S_ : Shape := ⟨0, ![]⟩
abbrev S7168x2048 : Shape := ⟨2, ![7168, 2048]⟩
abbrev S2048 : Shape := ⟨1, ![2048]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn_part1 {F : FTy → Type} [FloatOps F] (main_arg5 : IVec S2048 32) (main_arg6 : IVec S2048 32) (main_arg7 : IVec S_ 32) (main_v9 : IVec S2048 1) (main_v14 : IVec S2048 1) (main_v16 : IVec S2048 1) : IVec S_ 1 :=
  let main_c_6 : IVec S_ 32 := constantI S_ 32 31#32
  let main_v17 : IVec S2048 32 := broadcastInDim S2048 ![] bcast_S_S2048 main_c_6
  let main_v18 : IVec S2048 1 := cmpi .sle main_arg6 main_v17
  let main_v19 : IVec S2048 1 := andi main_v16 main_v18
  let main_c_7 : IVec S_ 32 := constantI S_ 32 2#32
  let main_v20 : IVec S2048 32 := broadcastInDim S2048 ![] bcast_S_S2048 main_c_7
  let main_v21 : IVec S2048 1 := cmpi .sge main_arg6 main_v20
  let main_v22 : IVec S2048 1 := andi main_v9 main_v14
  let main_v23 : IVec S2048 1 := ori main_v21 main_v22
  let main_v24 : IVec S2048 1 := andi main_v19 main_v23
  let main_c_8 : IVec S_ 32 := constantI S_ 32 0#32
  let main_v25 : IVec S2048 32 := broadcastInDim S2048 ![] bcast_S_S2048 main_c_8
  let main_v26 : IVec S2048 1 := cmpi .sge main_arg5 main_v25
  let main_v27 : IVec S2048 1 := andi main_v26 main_v24
  let main_c_9 : IVec S_ 1 := constantI S_ 1 1#1
  let main_v28 : IVec S_ 1 := (fun x v => Host.reduce IntOp.andi x v reducesTo_S2048_S_d0 h_S_) main_v27 main_c_9
  let main_c_10 : IVec S_ 32 := constantI S_ 32 4026531840#32
  let main_v29 : IVec S_ 1 := cmpi .sge main_arg7 main_c_10
  let main_v30 : IVec S_ 1 := andi main_v28 main_v29
  let main_c_11 : IVec S_ 32 := constantI S_ 32 268435456#32
  let main_v31 : IVec S_ 1 := cmpi .sle main_arg7 main_c_11
  let main_v32 : IVec S_ 1 := andi main_v30 main_v31
  main_v32

def fn {F : FTy → Type} [FloatOps F] (main_arg0 : IVec S24x1024x7168 8) (main_arg1 : IVec S_ 32) (main_arg2 : IVec S7168x2048 8) (main_arg3 : IVec S2048 32) (main_arg4 : IVec S2048 32) (main_arg5 : IVec S2048 32) (main_arg6 : IVec S2048 32) (main_arg7 : IVec S_ 32) : IVec S_ 1 :=
  let main_c : IVec S_ 32 := constantI S_ 32 0#32
  let main_v0 : IVec S_ 1 := cmpi .sge main_arg1 main_c
  let main_c_0 : IVec S_ 32 := constantI S_ 32 255#32
  let main_v1 : IVec S_ 1 := cmpi .sle main_arg1 main_c_0
  let main_v2 : IVec S_ 1 := andi main_v0 main_v1
  let main_c_1 : IVec S_ 32 := constantI S_ 32 0#32
  let main_v3 : IVec S2048 32 := broadcastInDim S2048 ![] bcast_S_S2048 main_c_1
  let main_v4 : IVec S2048 1 := cmpi .sge main_arg3 main_v3
  let main_v5 : IVec S2048 1 := broadcastInDim S2048 ![] bcast_S_S2048 main_v2
  let main_v6 : IVec S2048 1 := andi main_v5 main_v4
  let main_c_2 : IVec S_ 32 := constantI S_ 32 255#32
  let main_v7 : IVec S2048 32 := broadcastInDim S2048 ![] bcast_S_S2048 main_c_2
  let main_v8 : IVec S2048 1 := cmpi .sle main_arg3 main_v7
  let main_v9 : IVec S2048 1 := andi main_v6 main_v8
  let main_c_3 : IVec S_ 32 := constantI S_ 32 3221225472#32
  let main_v10 : IVec S2048 32 := broadcastInDim S2048 ![] bcast_S_S2048 main_c_3
  let main_v11 : IVec S2048 1 := cmpi .sge main_arg4 main_v10
  let main_c_4 : IVec S_ 32 := constantI S_ 32 1073741824#32
  let main_v12 : IVec S2048 32 := broadcastInDim S2048 ![] bcast_S_S2048 main_c_4
  let main_v13 : IVec S2048 1 := cmpi .sle main_arg4 main_v12
  let main_v14 : IVec S2048 1 := andi main_v11 main_v13
  let main_c_5 : IVec S_ 32 := constantI S_ 32 1#32
  let main_v15 : IVec S2048 32 := broadcastInDim S2048 ![] bcast_S_S2048 main_c_5
  let main_v16 : IVec S2048 1 := cmpi .sge main_arg6 main_v15
  fn_part1 (F := F) main_arg5 main_arg6 main_arg7 main_v9 main_v14 main_v16
-- ==== Kernel.lean ====
abbrev S24x1024x7168 : Shape := ⟨3, ![24, 1024, 7168]⟩
abbrev S_ : Shape := ⟨0, ![]⟩
abbrev S7168x2048 : Shape := ⟨2, ![7168, 2048]⟩
abbrev S2048 : Shape := ⟨1, ![2048]⟩
abbrev S1 : Shape := ⟨1, ![1]⟩
abbrev S24576x7168 : Shape := ⟨2, ![24576, 7168]⟩
abbrev S1x2048 : Shape := ⟨2, ![1, 2048]⟩
abbrev S24576x2048 : Shape := ⟨2, ![24576, 2048]⟩
abbrev S512x7168 : Shape := ⟨2, ![512, 7168]⟩
abbrev S512x2048 : Shape := ⟨2, ![512, 2048]⟩
abbrev S256x2048 : Shape := ⟨2, ![256, 2048]⟩
abbrev S64x2048 : Shape := ⟨2, ![64, 2048]⟩
abbrev S128x7168 : Shape := ⟨2, ![128, 7168]⟩
abbrev S512x1 : Shape := ⟨2, ![512, 1]⟩
abbrev S512x1024 : Shape := ⟨2, ![512, 1024]⟩
abbrev S512 : Shape := ⟨1, ![512]⟩
abbrev S1x256 : Shape := ⟨2, ![1, 256]⟩
abbrev S512x256 : Shape := ⟨2, ![512, 256]⟩
abbrev S1024x256 : Shape := ⟨2, ![1024, 256]⟩
abbrev S24x1024x2048 : Shape := ⟨3, ![24, 1024, 2048]⟩

abbrev nBuf : Space → Nat
  | .hbm => 17
  | .vmem => 11
  | .smem => 2
  | _ => 0

abbrev bufTy : (tb : Table) → Fin (tcTables nBuf tb) → BufTy
  | .hbm, ⟨0, _⟩ => ⟨S24x1024x7168, .i8⟩
  | .hbm, ⟨1, _⟩ => ⟨S_, .i32⟩
  | .hbm, ⟨2, _⟩ => ⟨S7168x2048, .i8⟩
  | .hbm, ⟨3, _⟩ => ⟨S2048, .i32⟩
  | .hbm, ⟨4, _⟩ => ⟨S2048, .i32⟩
  | .hbm, ⟨5, _⟩ => ⟨S2048, .i32⟩
  | .hbm, ⟨6, _⟩ => ⟨S2048, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S24576x7168, .i8⟩
  | .hbm, ⟨11, _⟩ => ⟨S1x2048, .i32⟩
  | .hbm, ⟨12, _⟩ => ⟨S1x2048, .i32⟩
  | .hbm, ⟨13, _⟩ => ⟨S1x2048, .i32⟩
  | .hbm, ⟨14, _⟩ => ⟨S1x2048, .i32⟩
  | .hbm, ⟨15, _⟩ => ⟨S24576x2048, .i8⟩
  | .hbm, ⟨16, _⟩ => ⟨S24x1024x2048, .i8⟩
  | .local _ .vmem, ⟨0, _⟩ => ⟨S512x7168, .i8⟩
  | .local _ .vmem, ⟨1, _⟩ => ⟨S512x7168, .i8⟩
  | .local _ .vmem, ⟨2, _⟩ => ⟨S7168x2048, .i8⟩
  | .local _ .vmem, ⟨3, _⟩ => ⟨S1x2048, .i32⟩
  | .local _ .vmem, ⟨4, _⟩ => ⟨S1x2048, .i32⟩
  | .local _ .vmem, ⟨5, _⟩ => ⟨S1x2048, .i32⟩
  | .local _ .vmem, ⟨6, _⟩ => ⟨S1x2048, .i32⟩
  | .local _ .vmem, ⟨7, _⟩ => ⟨S512x2048, .i8⟩
  | .local _ .vmem, ⟨8, _⟩ => ⟨S512x2048, .i8⟩
  | .local _ .vmem, ⟨9, _⟩ => ⟨S7168x2048, .bf16⟩
  | .local _ .vmem, ⟨10, _⟩ => ⟨S1x2048, .i32⟩
  | .local _ .smem, ⟨0, _⟩ => ⟨S1, .i32⟩
  | .local _ .smem, ⟨1, _⟩ => ⟨S1, .i32⟩
  | _, _ => ⟨S24x1024x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg8_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

@[reducible] def k0_t1_loop : Scf.Loop 32 :=
  let c0_i32_353 : BitVec 32 := 0#32
  let c28_i32 : BitVec 32 := 28#32
  let v875 : BitVec 32 := Scalar.addi c0_i32_353 c28_i32
  let c1_i32_354 : BitVec 32 := 1#32
  ⟨c0_i32_353, v875, c1_i32_354⟩
def k0_mult1 (k0_t1 : Fin k0_t1_loop.trips) : BitVec 32 :=
  let c0_i32_353 : BitVec 32 := 0#32
  let c1_i32_354 : BitVec 32 := 1#32
  let arg12 : BitVec 32 := Scf.iv c0_i32_353 c1_i32_354 k0_t1
  let c256_i32 : BitVec 32 := 256#32
  let v895 : BitVec 32 := Scalar.muli arg12 c256_i32
  v895
def k0_off1 (k0_t1 : Fin k0_t1_loop.trips) : Fin 2 → Nat :=
  let c0_i32_353 : BitVec 32 := 0#32
  let c1_i32_354 : BitVec 32 := 1#32
  let arg12 : BitVec 32 := Scf.iv c0_i32_353 c1_i32_354 k0_t1
  let c256_i32 : BitVec 32 := 256#32
  let v895 : BitVec 32 := Scalar.muli arg12 c256_i32
  let v896 : BitVec 32 := v895
  let v897 : Index := Scalar.indexCast v896
  let c0_363 : Index := 0#32
  ![v897.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x7168 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S7168x2048 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S24x1024x7168 : Shape := ⟨3, ![24, 1024, 7168]⟩
abbrev S_ : Shape := ⟨0, ![]⟩
abbrev S7168x2048 : Shape := ⟨2, ![7168, 2048]⟩
abbrev S2048 : Shape := ⟨1, ![2048]⟩
abbrev S24x1024x7168x1 : Shape := ⟨4, ![24, 1024, 7168, 1]⟩
abbrev S1x1x7168x2048 : Shape := ⟨4, ![1, 1, 7168, 2048]⟩
abbrev S24x1024x7168x2048 : Shape := ⟨4, ![24, 1024, 7168, 2048]⟩
abbrev S24x1024x2048 : Shape := ⟨3, ![24, 1024, 2048]⟩
abbrev S24x1024 : Shape := ⟨2, ![24, 1024]⟩
abbrev S1x1x2048 : Shape := ⟨3, ![1, 1, 2048]⟩
abbrev S24x1024x1 : Shape := ⟨3, ![24, 1024, 1]⟩

abbrev nBuf : Space → Nat
  | .hbm => 138
  | .vmem => 0
  | .smem => 0
  | _ => 0

abbrev hbmTy0_0 (i : Nat) : BufTy := match i % 128 with
  | 0 => ⟨S24x1024x7168, .i8⟩
  | 1 => ⟨S_, .i32⟩
  | 2 => ⟨S7168x2048, .i8⟩
  | 3 => ⟨S2048, .i32⟩
  | 4 => ⟨S2048, .i32⟩
  | 5 => ⟨S2048, .i32⟩
  | 6 => ⟨S2048, .i32⟩
  | 7 => ⟨S_, .i32⟩
  | 8 => ⟨S24x1024x7168, .i32⟩
  | 9 => ⟨S7168x2048, .i32⟩
  | 10 => ⟨S24x1024x7168x1, .i32⟩
  | 11 => ⟨S1x1x7168x2048, .i32⟩
  | 12 => ⟨S24x1024x7168x2048, .i32⟩
  | 13 => ⟨S24x1024x7168x2048, .i32⟩
  | 14 => ⟨S24x1024x7168x2048, .i32⟩
  | 15 => ⟨S_, .i32⟩
  | 16 => ⟨S24x1024x2048, .i32⟩
  | 17 => ⟨S_, .i32⟩
  | 18 => ⟨S2048, .i32⟩
  | 19 => ⟨S_, .i32⟩
  | 20 => ⟨S24x1024, .i32⟩
  | 21 => ⟨S_, .i32⟩
  | 22 => ⟨S_, .i32⟩
  | 23 => ⟨S2048, .i32⟩
  | 24 => ⟨S2048, .i32⟩
  | 25 => ⟨S2048, .i32⟩
  | 26 => ⟨S2048, .i32⟩
  | 27 => ⟨S1x1x2048, .i32⟩
  | 28 => ⟨S24x1024x2048, .i32⟩
  | 29 => ⟨S24x1024x2048, .i32⟩
  | 30 => ⟨S24x1024x1, .i32⟩
  | 31 => ⟨S1x1x2048, .i32⟩
  | 32 => ⟨S24x1024x2048, .i32⟩
  | 33 => ⟨S24x1024x2048, .i32⟩
  | 34 => ⟨S24x1024x2048, .i32⟩
  | 35 => ⟨S24x1024x2048, .i32⟩
  | 36 => ⟨S1x1x2048, .i32⟩
  | 37 => ⟨S24x1024x2048, .i32⟩
  | 38 => ⟨S24x1024x2048, .i32⟩
  | 39 => ⟨S1x1x2048, .i32⟩
  | 40 => ⟨S24x1024x2048, .i32⟩
  | 41 => ⟨S24x1024x2048, .i32⟩
  | 42 => ⟨S_, .i32⟩
  | 43 => ⟨S24x1024x2048, .i32⟩
  | 44 => ⟨S24x1024x2048, .i1⟩
  | 45 => ⟨S24x1024x2048, .i32⟩
  | 46 => ⟨S24x1024x2048, .i32⟩
  | 47 => ⟨S2048, .i32⟩
  | 48 => ⟨S_, .i32⟩
  | 49 => ⟨S24x1024x2048, .i32⟩
  | 50 => ⟨S24x1024x2048, .i32⟩
  | 51 => ⟨S_, .i32⟩
  | 52 => ⟨S24x1024x2048, .i32⟩
  | 53 => ⟨S24x1024x2048, .i32⟩
  | 54 => ⟨S_, .i32⟩
  | 55 => ⟨S2048, .i32⟩
  | 56 => ⟨S2048, .i32⟩
  | 57 => ⟨S_, .i32⟩
  | 58 => ⟨S2048, .i32⟩
  | 59 => ⟨S2048, .i32⟩
  | 60 => ⟨S1x1x2048, .i32⟩
  | 61 => ⟨S24x1024x2048, .i32⟩
  | 62 => ⟨S24x1024x2048, .i32⟩
  | 63 => ⟨S1x1x2048, .i32⟩
  | 64 => ⟨S24x1024x2048, .i32⟩
  | 65 => ⟨S24x1024x2048, .i32⟩
  | 66 => ⟨S1x1x2048, .i32⟩
  | 67 => ⟨S24x1024x2048, .i32⟩
  | 68 => ⟨S24x1024x2048, .i32⟩
  | 69 => ⟨S24x1024x2048, .i32⟩
  | 70 => ⟨S1x1x2048, .i32⟩
  | 71 => ⟨S24x1024x2048, .i32⟩
  | 72 => ⟨S24x1024x2048, .i32⟩
  | 73 => ⟨S_, .i32⟩
  | 74 => ⟨S24x1024x2048, .i32⟩
  | 75 => ⟨S24x1024x2048, .i32⟩
  | 76 => ⟨S24x1024x2048, .i32⟩
  | 77 => ⟨S_, .i32⟩
  | 78 => ⟨S24x1024x2048, .i32⟩
  | 79 => ⟨S24x1024x2048, .i32⟩
  | 80 => ⟨S24x1024x2048, .i32⟩
  | 81 => ⟨S24x1024x2048, .i1⟩
  | 82 => ⟨S24x1024x2048, .i32⟩
  | 83 => ⟨S24x1024x2048, .i32⟩
  | 84 => ⟨S24x1024x2048, .i32⟩
  | 85 => ⟨S_, .i32⟩
  | 86 => ⟨S24x1024x2048, .i32⟩
  | 87 => ⟨S24x1024x2048, .i32⟩
  | 88 => ⟨S24x1024x2048, .i32⟩
  | 89 => ⟨S24x1024x2048, .i1⟩
  | 90 => ⟨S24x1024x2048, .i32⟩
  | 91 => ⟨S24x1024x2048, .i32⟩
  | 92 => ⟨S_, .i32⟩
  | 93 => ⟨S24x1024x2048, .i32⟩
  | 94 => ⟨S24x1024x2048, .i32⟩
  | 95 => ⟨S_, .i32⟩
  | 96 => ⟨S24x1024x2048, .i32⟩
  | 97 => ⟨S24x1024x2048, .i32⟩
  | 98 => ⟨S24x1024x2048, .i32⟩
  | 99 => ⟨S24x1024x2048, .i32⟩
  | 100 => ⟨S24x1024x2048, .i32⟩
  | 101 => ⟨S24x1024x2048, .i32⟩
  | 102 => ⟨S_, .i32⟩
  | 103 => ⟨S2048, .i32⟩
  | 104 => ⟨S2048, .i32⟩
  | 105 => ⟨S_, .i32⟩
  | 106 => ⟨S2048, .i32⟩
  | 107 => ⟨S2048, .i32⟩
  | 108 => ⟨S1x1x2048, .i32⟩
  | 109 => ⟨S24x1024x2048, .i32⟩
  | 110 => ⟨S24x1024x2048, .i32⟩
  | 111 => ⟨S_, .i32⟩
  | 112 => ⟨S2048, .i32⟩
  | 113 => ⟨S2048, .i32⟩
  | 114 => ⟨S_, .i32⟩
  | 115 => ⟨S24x1024x2048, .i32⟩
  | 116 => ⟨S24x1024x2048, .i1⟩
  | 117 => ⟨S24x1024x2048, .i32⟩
  | 118 => ⟨S1x1x2048, .i32⟩
  | 119 => ⟨S24x1024x2048, .i32⟩
  | 120 => ⟨S24x1024x2048, .i32⟩
  | 121 => ⟨S1x1x2048, .i32⟩
  | 122 => ⟨S24x1024x2048, .i32⟩
  | 123 => ⟨S24x1024x2048, .i32⟩
  | 124 => ⟨S24x1024x2048, .i1⟩
  | 125 => ⟨S24x1024x2048, .i32⟩
  | 126 => ⟨S24x1024x2048, .i32⟩
  | 127 => ⟨S24x1024x2048, .i32⟩
  | _ => ⟨S24x1024x7168, .i8⟩

abbrev hbmTy0_1 (i : Nat) : BufTy := match i % 128 with
  | 0 => ⟨S24x1024x2048, .i32⟩
  | 1 => ⟨S_, .i32⟩
  | 2 => ⟨S_, .i32⟩
  | 3 => ⟨S_, .i32⟩
  | 4 => ⟨S24x1024x2048, .i32⟩
  | 5 => ⟨S24x1024x2048, .i32⟩
  | 6 => ⟨S_, .i32⟩
  | 7 => ⟨S24x1024x2048, .i32⟩
  | 8 => ⟨S24x1024x2048, .i32⟩
  | 9 => ⟨S24x1024x2048, .i8⟩
  | _ => ⟨S24x1024x7168, .i8⟩

abbrev hbmTy (i : Nat) : BufTy := match i / 128 with
  | 0 => hbmTy0_0 i
  | 1 => hbmTy0_1 i
  | _ => ⟨S24x1024x7168, .i8⟩

abbrev bufTy : (tb : Table) → Fin (tcTables nBuf tb) → BufTy
  | .hbm, ⟨i, _⟩ => hbmTy i
  | _, _ => ⟨S24x1024x7168, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_4 : Ref sig .tc := ⟨.hbm, 48, rfl⟩
abbrev main_v35 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_c_6 : Ref sig .tc := ⟨.hbm, 54, rfl⟩
abbrev main_v39 : Ref sig .tc := ⟨.hbm, 55, rfl⟩
abbrev main_v40 : Ref sig .tc := ⟨.hbm, 56, rfl⟩
abbrev main_c_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_9 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_c_10 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_c_11 : Ref sig .tc := ⟨.hbm, 92, rfl⟩
abbrev main_v72 : Ref sig .tc := ⟨.hbm, 93, rfl⟩
abbrev main_v73 : Ref sig .tc := ⟨.hbm, 94, rfl⟩
abbrev main_c_12 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_c_13 : Ref sig .tc := ⟨.hbm, 102, rfl⟩
abbrev main_v80 : Ref sig .tc := ⟨.hbm, 103, rfl⟩
abbrev main_v81 : Ref sig .tc := ⟨.hbm, 104, rfl⟩
abbrev main_c_14 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_c_15 : Ref sig .tc := ⟨.hbm, 111, rfl⟩
abbrev main_v87 : Ref sig .tc := ⟨.hbm, 112, rfl⟩
abbrev main_v88 : Ref sig .tc := ⟨.hbm, 113, rfl⟩
abbrev main_c_16 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_c_17 : Ref sig .tc := ⟨.hbm, 129, rfl⟩
abbrev main_c_18 : Ref sig .tc := ⟨.hbm, 130, rfl⟩
abbrev main_call1_v0 : Ref sig .tc := ⟨.hbm, 131, rfl⟩
abbrev main_call1_v1 : Ref sig .tc := ⟨.hbm, 132, rfl⟩
abbrev main_call1_v2 : Ref sig .tc := ⟨.hbm, 133, rfl⟩
abbrev main_call1_v3 : Ref sig .tc := ⟨.hbm, 134, rfl⟩
abbrev main_call1_v4 : Ref sig .tc := ⟨.hbm, 135, rfl⟩
abbrev main_v103 : Ref sig .tc := ⟨.hbm, 136, rfl⟩
abbrev main_v104 : Ref sig .tc := ⟨.hbm, 137, rfl⟩

abbrev nD : Nat := 1
abbrev τ : Topo := Topo.v7x

variable {F : FTy → Type} [FloatOps F]
-- ==== Proof.Split.lean ====
/-
  The body of the kernel, cut in two at its `pl.when(program_id == 0)`.

  `initProg` is what the first grid point alone does: the counted loop that fills the bf16 copy of the
  weights and sums their columns, then the store of the constant row.  `restProg` is what every grid point
  does.  `body_first` and `body_later` say that the printed body is the two in sequence at the first
  point, and `restProg` alone at the others.
-/
module

public import proofs.«01_k».proof.Proof.Gen.KernelIdeal.Frame
public import proofs.«01_k».proof.Proof.Gen.KernelIdeal.Skeleton
public import proofs.«01_k».proof.Proof.Gen.KernelIdeal.Points
public import proofs.«01_k».proof.Proof.Gen.KernelIdeal.Launch
public import Idealize.ShloMosaic.Lib.Exec
public import Idealize.ShloMosaic.Lib.Tactic
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section
variable (i : grid0.Coords)
  (arg1 : Memref sig .tc .smem S1 .i32) (harg1 : arg1.IsWhole)
  (arg2 : Memref sig .tc .smem S1 .i32) (harg2 : arg2.IsWhole)
  (arg3 : Memref sig .tc .vmem S512x7168 .i8) (harg3 : arg3.IsWhole)
  (arg4 : Memref sig .tc .vmem S7168x2048 .i8) (harg4 : arg4.IsWhole)
  (arg5 : Memref sig .tc .vmem S1x2048 .i32) (harg5 : arg5.IsWhole)
  (arg6 : Memref sig .tc .vmem S1x2048 .i32) (harg6 : arg6.IsWhole)
  (arg7 : Memref sig .tc .vmem S1x2048 .i32) (harg7 : arg7.IsWhole)
  (arg8 : Memref sig .tc .vmem S1x2048 .i32) (harg8 : arg8.IsWhole)
  (arg9 : Memref sig .tc .vmem S512x2048 .i8) (harg9 : arg9.IsWhole)
  (arg10 : Memref sig .tc .vmem S7168x2048 .bf16) (harg10 : arg10.IsWhole)
  (arg11 : Memref sig .tc .vmem S1x2048 .i32) (harg11 : arg11.IsWhole)

/-- What the first grid point does before the common part, given the input zero point `v0`. -/
def initProg (v0 : Elt F .i32) (k0_h1 : k0_cond1 i = 1#1) : Prog (TpuEff nD τ sig (Elt F) Λ₀ .tc) PUnit := do
  let v876 : IVec S1x2048 32 ← Scf.Loop.for k0_t1_loop (k0_t1_ok i k0_h1) k0_pay1 (k0_t1_body i arg1 harg1 arg2 harg2 arg3 harg3 arg4 harg4 arg5 harg5 arg6 harg6 arg7 harg7 arg8 harg8 arg9 harg9 arg10 harg10 arg11 harg11 k0_h1)
  let v877 : Vec F S1x2048 .i32 ← Prog.lift (.load arg5 (Rect.unit (s := S1x2048) ![0, 0] S1x2048.size inb_S1x2048_S1x2048_0_0).toLoadRect (View.loadsAt_vmem h_S1x2048))
  let v887 : Vec F S1x2048 .i32 ← Prog.lift (.load arg6 (Rect.unit (s := S1x2048) ![0, 0] S1x2048.size inb_S1x2048_S1x2048_0_0).toLoadRect (View.loadsAt_vmem h_S1x2048))
  let v892 : Vec F S1x2048 .i32 ← Prog.lift (.load arg11 (Rect.unit (s := S1x2048) ![0, 0] S1x2048.size inb_S1x2048_S1x2048_0_0).toLoadRect (View.loadsAt_vmem h_S1x2048))
  Prog.lift (.store arg11 (Rect.unit (s := S1x2048) ![0, 0] S1x2048.size inb_S1x2048_S1x2048_0_0) (k0_pay5 v0 v876 v877 v887) Finset.univ (View.stores_vmem_bits_univ h_S1x2048 rfl) (.inl rfl))
  pure ⟨⟩

/-- What every grid point does: the product of its row block with the bf16 weights, and the requantisation. -/
def restProg : Prog (TpuEff nD τ sig (Elt F) Λ₀ .tc) PUnit := do
  let v5 : Vec F S512x7168 .i8 ← Prog.lift (.load arg3 (Rect.unit (s := S512x7168) ![0, 0] S512x7168.size inb_S512x7168_S512x7168_0_0).toLoadRect (View.loadsAt_vmem h_S512x7168))
  let ⟨v54, v57, v85⟩ : Σ' (v54 : IVec S512x1 32) (v57 : BitVec 32), IVec S512x256 32 ← k0_part2 i arg1 harg1 arg2 harg2 arg3 harg3 arg4 harg4 arg5 harg5 arg6 harg6 arg7 harg7 arg8 harg8 arg9 harg9 arg10 harg10 arg11 harg11 (k0_pay6 v5) (k0_pay7 v5) (k0_pay8 v5)
  let ⟨v111, v113, v115, v119, v121, v123, v124⟩ : Σ' (v111 : IVec S1x256 32) (v113 : IVec S1x256 32) (v115 : IVec S1x256 32) (v119 : IVec S1x256 32) (v121 : IVec S512x256 32) (v123 : IVec S512x256 32), IVec S512x256 32 ← k0_part3 i arg1 harg1 arg2 harg2 arg3 harg3 arg4 harg4 arg5 harg5 arg6 harg6 arg7 harg7 arg8 harg8 arg9 harg9 arg10 harg10 arg11 harg11 (k0_pay6 v5) v85
  let ⟨v166, v168⟩ : Σ' (v166 : IVec S512x256 32), IVec S512x256 32 ← k0_part4 i arg1 harg1 arg2 harg2 arg3 harg3 arg4 harg4 arg5 harg5 arg6 harg6 arg7 harg7 arg8 harg8 arg9 harg9 arg10 harg10 arg11 harg11 v54 v57 v111 v113 v115 v119 v121 v123 v124
  let ⟨v205, v206, v207, cst_67⟩ : Σ' (v205 : IVec S512x256 32) (v206 : FVec F S512x1024 .bf16) (v207 : Vec F S1024x256 .bf16), FVec F S512x256 .f32 ← k0_part5 i arg1 harg1 arg2 harg2 arg3 harg3 arg4 harg4 arg5 harg5 arg6 harg6 arg7 harg7 arg8 harg8 arg9 harg9 arg10 harg10 arg11 harg11 (k0_pay6 v5) v166 v168
  let v253 : IVec S512x256 32 ← k0_part6 i arg1 harg1 arg2 harg2 arg3 harg3 arg4 harg4 arg5 harg5 arg6 harg6 arg7 harg7 arg8 harg8 arg9 harg9 arg10 harg10 arg11 harg11 v57 v205 v206 v207 cst_67
  let ⟨v289, v290, v291⟩ : Σ' (v289 : IVec S512x256 32) (v290 : FVec F S512x1024 .bf16), Vec F S1024x256 .bf16 ← k0_part7 i arg1 harg1 arg2 harg2 arg3 harg3 arg4 harg4 arg5 harg5 arg6 harg6 arg7 harg7 arg8 harg8 arg9 harg9 arg10 harg10 arg11 harg11 (k0_pay6 v5) v54 v253
  let ⟨v315, v317, v319, v323, v325, v327, v331⟩ : Σ' (v315 : IVec S1x256 32) (v317 : IVec S1x256 32) (v319 : IVec S1x256 32) (v323 : IVec S1x256 32) (v325 : IVec S512x256 32) (v327 : IVec S512x256 32), IVec S512x256 32 ← k0_part8 i arg1 harg1 arg2 harg2 arg3 harg3 arg4 harg4 arg5 harg5 arg6 harg6 arg7 harg7 arg8 harg8 arg9 harg9 arg10 harg10 arg11 harg11 (k0_pay6 v5) v289 v290 v291
  let ⟨v373, v374⟩ : Σ' (v373 : IVec S512x256 32), FVec F S512x1024 .bf16 ← k0_part9 i arg1 harg1 arg2 harg2 arg3 harg3 arg4 harg4 arg5 harg5 arg6 harg6 arg7 harg7 arg8 harg8 arg9 harg9 arg10 harg10 arg11 harg11 (k0_pay6 v5) v54 v57 v315 v317 v319 v323 v325 v327 v331
  let v415 : IVec S512x256 32 ← k0_part10 i arg1 harg1 arg2 harg2 arg3 harg3 arg4 harg4 arg5 harg5 arg6 harg6 arg7 harg7 arg8 harg8 arg9 harg9 arg10 harg10 arg11 harg11 (k0_pay6 v5) v373 v374
  let ⟨v459, c0_i32_171⟩ : Σ' (v459 : IVec S512x256 32), BitVec 32 ← k0_part11 i arg1 harg1 arg2 harg2 arg3 harg3 arg4 harg4 arg5 harg5 arg6 harg6 arg7 harg7 arg8 harg8 arg9 harg9 arg10 harg10 arg11 harg11 v57 v415
  let ⟨v493, v498⟩ : Σ' (v493 : IVec S512x256 32), IVec S512x256 32 ← k0_part12 i arg1 harg1 arg2 harg2 arg3 harg3 arg4 harg4 arg5 harg5 arg6 harg6 arg7 harg7 arg8 harg8 arg9 harg9 arg10 harg10 arg11 harg11 (k0_pay6 v5) v54 v459 c0_i32_171
  let ⟨v519, v521, v523, v527, v529, v538, c32768_i32_211⟩ : Σ' (v519 : IVec S1x256 32) (v521 : IVec S1x256 32) (v523 : IVec S1x256 32) (v527 : IVec S1x256 32) (v529 : IVec S512x256 32) (v538 : IVec S512x256 32), BitVec 32 ← k0_part13 i arg1 harg1 arg2 harg2 arg3 harg3 arg4 harg4 arg5 harg5 arg6 harg6 arg7 harg7 arg8 harg8 arg9 harg9 arg10 harg10 arg11 harg11 (k0_pay6 v5) v493 v498
  let ⟨v577, v581⟩ : Σ' (v577 : IVec S512x256 32), FVec F S512x256 .f32 ← k0_part14 i arg1 harg1 arg2 harg2 arg3 harg3 arg4 harg4 arg5 harg5 arg6 harg6 arg7 harg7 arg8 harg8 arg9 harg9 arg10 harg10 arg11 harg11 (k0_pay6 v5) v54 v57 v519 v521 v523 v527 v529 v538 c32768_i32_211
  let ⟨v619, v621⟩ : Σ' (v619 : IVec S512x256 32), IVec S1x256 32 ← k0_part15 i arg1 harg1 arg2 harg2 arg3 harg3 arg4 harg4 arg5 harg5 arg6 harg6 arg7 harg7 arg8 harg8 arg9 harg9 arg10 harg10 arg11 harg11 (k0_pay6 v5) v577 v581
  let ⟨v665, v666⟩ : Σ' (v665 : IVec S512x256 32), IVec S512x256 32 ← k0_part16 i arg1 harg1 arg2 harg2 arg3 harg3 arg4 harg4 arg5 harg5 arg6 harg6 arg7 harg7 arg8 harg8 arg9 harg9 arg10 harg10 arg11 harg11 v57 v619 v621
  let ⟨v703, v704⟩ : Σ' (v703 : IVec S512x256 32), FVec F S512x1024 .bf16 ← k0_part17 i arg1 harg1 arg2 harg2 arg3 harg3 arg4 harg4 arg5 harg5 arg6 harg6 arg7 harg7 arg8 harg8 arg9 harg9 arg10 harg10 arg11 harg11 (k0_pay6 v5) v54 v665 v666
  let ⟨v723, v725, v731, v733, v744, v746⟩ : Σ' (v723 : IVec S1x256 32) (v725 : IVec S1x256 32) (v731 : IVec S1x256 32) (v733 : IVec S512x256 32) (v744 : IVec S512x256 32), IVec S512x256 32 ← k0_part18 i arg1 harg1 arg2 harg2 arg3 harg3 arg4 harg4 arg5 harg5 arg6 harg6 arg7 harg7 arg8 harg8 arg9 harg9 arg10 harg10 arg11 harg11 (k0_pay6 v5) v703 v704
  let ⟨v787, v788⟩ : Σ' (v787 : IVec S512x256 32), FVec F S512x1024 .bf16 ← k0_part19 i arg1 harg1 arg2 harg2 arg3 harg3 arg4 harg4 arg5 harg5 arg6 harg6 arg7 harg7 arg8 harg8 arg9 harg9 arg10 harg10 arg11 harg11 (k0_pay6 v5) v54 v57 v723 v725 v731 v733 v744 v746
  let ⟨v823, v825, v827, c32767_i32_336⟩ : Σ' (v823 : IVec S512x256 32) (v825 : IVec S1x256 32) (v827 : IVec S1x256 32), BitVec 32 ← k0_part20 i arg1 harg1 arg2 harg2 arg3 harg3 arg4 harg4 arg5 harg5 arg6 harg6 arg7 harg7 arg8 harg8 arg9 harg9 arg10 harg10 arg11 harg11 (k0_pay6 v5) v787 v788
  let v872 : IVec S512x256 8 ← k0_part21 i arg1 harg1 arg2 harg2 arg3 harg3 arg4 harg4 arg5 harg5 arg6 harg6 arg7 harg7 arg8 harg8 arg9 harg9 arg10 harg10 arg11 harg11 v57 v823 v825 v827 c32767_i32_336
  let v873 : Vec F S512x256 .i8 ← Prog.lift (.load arg9 (Rect.unit (s := S512x2048) ![0, 1792] S512x256.size inb_S512x2048_S512x256_0_1792).toLoadRect (View.loadsAt_vmem h_S512x256))
  Prog.lift (.store arg9 (Rect.unit (s := S512x2048) ![0, 1792] S512x256.size inb_S512x2048_S512x256_0_1792) v872 Finset.univ (View.stores_vmem h_S512x256 (harg9.storeExact_slice rfl _ packedi8_S512x2048_S512x256_0_1792) (fun _ => rfl)) (.inl rfl))
  pure ⟨⟩

/-- Returning a value and going on with it is going on with it. -/
theorem ret_bind {α β : Type} (a : α) (f : α → Prog (TpuEff nD τ sig (Elt F) Λ₀ .tc) β) :
    ((Pure.pure a : Prog (TpuEff nD τ sig (Elt F) Λ₀ .tc) α) >>= f) = f a := rfl

set_option maxHeartbeats 1000000 in
/-- At the first point the body is the read of the input zero point, `initProg`, then `restProg`. -/
theorem body_first (h : k0_cond1 i = 1#1) :
    cc0_u8_linear (F := F) i arg1 harg1 arg2 harg2 arg3 harg3 arg4 harg4 arg5 harg5 arg6 harg6 arg7 harg7 arg8 harg8 arg9 harg9 arg10 harg10 arg11 harg11
      = (smemLoad arg1 (Rect.unit (s := S1) ![0] S1.size inb_S1_S1_0) numel1_S1 rfl >>= fun v0 =>
          initProg i arg1 harg1 arg2 harg2 arg3 harg3 arg4 harg4 arg5 harg5 arg6 harg6 arg7 harg7 arg8 harg8 arg9 harg9 arg10 harg10 arg11 harg11 v0 h >>= fun _ => restProg i arg1 harg1 arg2 harg2 arg3 harg3 arg4 harg4 arg5 harg5 arg6 harg6 arg7 harg7 arg8 harg8 arg9 harg9 arg10 harg10 arg11 harg11) := by
  rw [cc0_u8_linear_eq_skeleton]; unfold cc0_u8_linear_skel
  rw [k0_part1_eq_skeleton]; unfold k0_part1_skel restProg initProg
  simp only [dif_pos h, Prog.bind_assoc, ret_bind]

set_option maxHeartbeats 1000000 in
/-- At any other point it is the read of the input zero point (unused), then `restProg`. -/
theorem body_later (h : ¬ k0_cond1 i = 1#1) :
    cc0_u8_linear (F := F) i arg1 harg1 arg2 harg2 arg3 harg3 arg4 harg4 arg5 harg5 arg6 harg6 arg7 harg7 arg8 harg8 arg9 harg9 arg10 harg10 arg11 harg11
      = (smemLoad arg1 (Rect.unit (s := S1) ![0] S1.size inb_S1_S1_0) numel1_S1 rfl >>= fun _ =>
          restProg i arg1 harg1 arg2 harg2 arg3 harg3 arg4 harg4 arg5 harg5 arg6 harg6 arg7 harg7 arg8 harg8 arg9 harg9 arg10 harg10 arg11 harg11) := by
  rw [cc0_u8_linear_eq_skeleton]; unfold cc0_u8_linear_skel
  rw [k0_part1_eq_skeleton]; unfold k0_part1_skel restProg
  simp only [dif_neg h, Prog.bind_assoc, ret_bind]

end

end Cert.KernelIdeal.Body

end
-- ==== Proof.Rest.lean ====
/-
  What every grid point does, run: `restRun`.
-/
module

public import proofs.«01_k».proof.Proof.Split
public import proofs.«01_k».proof.Proof.Gen.KernelIdeal.Skeleton
public import proofs.«01_k».proof.Proof.Gen.KernelIdeal.Points
public import proofs.«01_k».proof.Proof.Gen.KernelIdeal.Launch
public import Idealize.ShloMosaic.Lib.Exec
public import Idealize.ShloMosaic.Lib.Tactic
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
/-- The common part of the body, run on whole staging buffers.  Holding the operand blocks, the bf16 weights
    `wb` and the constant row `cs`, it ends with all of them as they were and with a list of writes in the
    output's staging buffer, whatever that buffer held. -/
def restRun (c : Dev nD) (i : grid0.Coords)
  (arg1 : Memref sig .tc .smem S1 .i32) (harg1 : arg1.IsWhole)
  (arg2 : Memref sig .tc .smem S1 .i32) (harg2 : arg2.IsWhole)
  (arg3 : Memref sig .tc .vmem S512x7168 .i8) (harg3 : arg3.IsWhole)
  (arg4 : Memref sig .tc .vmem S7168x2048 .i8) (harg4 : arg4.IsWhole)
  (arg5 : Memref sig .tc .vmem S1x2048 .i32) (harg5 : arg5.IsWhole)
  (arg6 : Memref sig .tc .vmem S1x2048 .i32) (harg6 : arg6.IsWhole)
  (arg7 : Memref sig .tc .vmem S1x2048 .i32) (harg7 : arg7.IsWhole)
  (arg8 : Memref sig .tc .vmem S1x2048 .i32) (harg8 : arg8.IsWhole)
  (arg9 : Memref sig .tc .vmem S512x2048 .i8) (harg9 : arg9.IsWhole)
  (arg10 : Memref sig .tc .vmem S7168x2048 .bf16) (harg10 : arg10.IsWhole)
  (arg11 : Memref sig .tc .vmem S1x2048 .i32) (harg11 : arg11.IsWhole)
  (x1 : Vec F S1 .i32) (x2 : Vec F S512x7168 .i8) (x4 : Vec F S1x2048 .i32) (x6 : Vec F S1x2048 .i32) (x7 : Vec F S1x2048 .i32) (wb : Vec F S7168x2048 .bf16) (cs : Vec F S1x2048 .i32) :
    { L : List (View.Piece (Elt F) S512x2048 .i8) //
      ∀ (f9 : BufTy.Contents (Elt F) arg9.view.ty) (E : Set ℕ) (K : PUnit → sProp 𝕄),
        iprop(owns (c : Thread nD τ) arg2 fullShare x1 ∗ owns (c : Thread nD τ) arg3 fullShare x2 ∗ owns (c : Thread nD τ) arg5 fullShare x4 ∗ owns (c : Thread nD τ) arg7 fullShare x6 ∗ owns (c : Thread nD τ) arg8 fullShare x7 ∗ owns (c : Thread nD τ) arg10 fullShare wb ∗ owns (c : Thread nD τ) arg11 fullShare cs ∗ (arg9.view.loc (c : Thread nD τ) ↦[arg9.view.set]{fullShare} f9)
            ∗ (iprop(owns (c : Thread nD τ) arg2 fullShare x1 ∗ owns (c : Thread nD τ) arg3 fullShare x2 ∗ owns (c : Thread nD τ) arg5 fullShare x4 ∗ owns (c : Thread nD τ) arg7 fullShare x6 ∗ owns (c : Thread nD τ) arg8 fullShare x7 ∗ owns (c : Thread nD τ) arg10 fullShare wb ∗ owns (c : Thread nD τ) arg11 fullShare cs ∗ (arg9.view.loc (c : Thread nD τ) ↦[arg9.view.set]{fullShare} (arg9.view.writes (Elt F) f9 L))) -∗ K ⟨⟩))
          ⊢ wp frame (wpE (defs₀ (F := F)) Variants.none c none) E (restProg i arg1 harg1 arg2 harg2 arg3 harg3 arg4 harg4 arg5 harg5 arg6 harg6 arg7 harg7 arg8 harg8 arg9 harg9 arg10 harg10 arg11 harg11) K } := by
  refine ⟨?_, fun f9 E K => ?run⟩
  case run =>
    unfold restProg
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f2, %hf2, H2⟩, ⟨%f3, %hf3, H3⟩, ⟨%f5, %hf5, H5⟩, ⟨%f7, %hf7, H7⟩, ⟨%f8, %hf8, H8⟩, ⟨%f10, %hf10, H10⟩, ⟨%f11, %hf11, H11⟩, H9, Hk⟩
    obtain rfl := harg2.eq_unread hf2; obtain rfl := harg3.eq_unread hf3; obtain rfl := harg5.eq_unread hf5; obtain rfl := harg7.eq_unread hf7; obtain rfl := harg8.eq_unread hf8; obtain rfl := harg10.eq_unread hf10; obtain rfl := harg11.eq_unread hf11
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H5]
    · iexists _; isplitr; · ipureintro; exact harg5.read_unread _
      iexact H5
    isplitl [H7]
    · iexists _; isplitr; · ipureintro; exact harg7.read_unread _
      iexact H7
    isplitl [H8]
    · iexists _; isplitr; · ipureintro; exact harg8.read_unread _
      iexact H8
    isplitl [H10]
    · iexists _; isplitr; · ipureintro; exact harg10.read_unread _
      iexact H10
    isplitl [H11]
    · iexists _; isplitr; · ipureintro; exact harg11.read_unread _
      iexact H11
    iexact H9

end Cert.KernelIdeal.Body

end
-- ==== Proof.Block.lean ====
/-
  One block of 256 output columns, as the body computes it, stated once (`blockOut`), and what the body writes
  in terms of it: eight such blocks (`pieces_eq`), which tile the output's staging buffer (`out_read`).
-/
module

public import proofs.«01_k».proof.Proof.Rest
public import proofs.«01_k».proof.Proof.Gen.KernelIdeal.Skeleton
public import proofs.«01_k».proof.Proof.Gen.KernelIdeal.Points
public import proofs.«01_k».proof.Proof.Gen.KernelIdeal.Launch
public import Idealize.ShloMosaic.Lib.Exec
public import Idealize.ShloMosaic.Lib.Tactic
public import Idealize.ShloMosaic.Lib.Pipeline.ValueKit
public import Idealize.ShloMosaic.Lib.WritesUnit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Columns `1024 k … 1024 k + 1023` of the centred input rows. -/
def xChunk (xb : FVec F S512x7168 .bf16) (k : Fin 7) : FVec F S512x1024 .bf16 :=
  extractStridedSlice S512x1024 ![0, 1024 * k.val] xb
    ⟨rfl, Fin.forall_fin_two.mpr ⟨Nat.le_of_eq rfl, by have := k.isLt; show 1024 * k.val + 1024 ≤ 7168; omega⟩⟩

/-- Adds chunk `k`'s row sums. -/
def addRow (xb : FVec F S512x7168 .bf16) (acc : IVec S512x1 32) (k : Fin 7) : IVec S512x1 32 :=
  addi acc (fptosi 32 (shapeCast S512x1
    (multiReduction .add [1] S512 (extf .f32 (xChunk xb k) bitsLt_bf16_f32) 0x00000000#32 reduces_S512x1024_S512 (.inl rfl) rfl)
    shapeCasts_S512_S512x1))

/-- The row sums of the centred input. -/
def rowSums (xb : FVec F S512x7168 .bf16) : IVec S512x1 32 :=
  [0, 1, 2, 3, 4, 5, 6].foldl (addRow xb) (broadcast S512x1 0#32)

/-- Adds chunk `k`'s product, rounded to an integer. -/
def addDot (xb : FVec F S512x7168 .bf16) (w : Fin 7 → FVec F S1024x256 .bf16) (acc : IVec S512x256 32) (k : Fin 7) :
    IVec S512x256 32 :=
  addi acc (fptosi 32 (roundeven (matmul dot_S512x1024_S1024x256_S512x256_1_0_0_1_n_n none (xChunk xb k) (w k)
    (constant S512x256 .f32 0x00000000#32))))

/-- The biased accumulator of a block of columns. -/
def accBlock (xb : FVec F S512x7168 .bf16) (w : Fin 7 → FVec F S1024x256 .bf16) (wz cs : IVec S1x256 32) : IVec S512x256 32 :=
  [0, 1, 2, 3, 4, 5, 6].foldl (addDot xb w)
    (addi (muli (broadcastTo S512x256 (rowSums xb) broadcasts_S512x1_S512x256)
        (broadcastTo S512x256 (subi (broadcast S1x256 128#32) (shapeCast S1x256 wz shapeCasts_S1x256_S1x256)) broadcasts_S1x256_S512x256))
      (broadcastTo S512x256 cs broadcasts_S1x256_S512x256))

/-- The requantisation of a block of columns. -/
def requant (y : BitVec 32) (acc : IVec S512x256 32) (m0' sh : IVec S1x256 32) : IVec S512x256 8 :=
  let m0 : IVec S1x256 32 := shapeCast S1x256 m0' shapeCasts_S1x256_S1x256
  let hi : IVec S1x256 32 := shrui m0 (broadcast S1x256 15#32)
  let lo : IVec S1x256 32 := andi m0 (broadcast S1x256 32767#32)
  let s1 : IVec S1x256 32 := subi (shapeCast S1x256 sh shapeCasts_S1x256_S1x256) (broadcast S1x256 1#32)
  let a1 : IVec S512x256 32 := shrui acc (broadcast S512x256 16#32)
  let a0 : IVec S512x256 32 := andi acc (broadcast S512x256 65535#32)
  let hiB : IVec S512x256 32 := broadcastTo S512x256 hi broadcasts_S1x256_S512x256
  let loB : IVec S512x256 32 := broadcastTo S512x256 lo broadcasts_S1x256_S512x256
  let low : IVec S512x256 32 := addi (addi (shrui (muli a0 loB) (broadcast S512x256 15#32)) (muli a0 hiB)) (broadcast S512x256 32768#32)
  let mid : IVec S512x256 32 := addi (muli a1 loB) (shrui low (broadcast S512x256 1#32))
  let high : IVec S512x256 32 := addi (muli a1 hiB) (shrui mid (broadcast S512x256 15#32))
  let h : IVec S512x256 32 := subi high (broadcastTo S512x256 m0 broadcasts_S1x256_S512x256)
  let h' : IVec S512x256 32 := addi h (shrsi h (broadcast S512x256 31#32))
  let v : IVec S512x256 32 := shrsi (addi (shrsi h' (broadcastTo S512x256 s1 broadcasts_S1x256_S512x256)) (broadcast S512x256 y)) (broadcast S512x256 1#32)
  trunci 8 (minsi (broadcast S512x256 255#32) (maxsi (broadcast S512x256 0#32) v)) natLt_8_32

/-- The word the body adds before its last shift: `2 * y_zp + 1`. -/
def yAdd (x1 : Vec F S1 .i32) : BitVec 32 :=
  Scalar.addi (Scalar.muli 2#32 (x1 (ix1 (0 : Fin 1)))) 1#32

theorem inbCols (n : Fin 8) : ∀ a, (![0, 256 * n.val] : Fin 2 → ℕ) a + S1x256.size a ≤ S1x2048.size a :=
  Fin.forall_fin_two.mpr ⟨Nat.le_of_eq rfl, by have := n.isLt; show 256 * n.val + 256 ≤ 2048; omega⟩
theorem inbW (n : Fin 8) (k : Fin 7) : ∀ a, (![1024 * k.val, 256 * n.val] : Fin 2 → ℕ) a + S1024x256.size a ≤ S7168x2048.size a :=
  Fin.forall_fin_two.mpr ⟨by have := k.isLt; show 1024 * k.val + 1024 ≤ 7168; omega, by have := n.isLt; show 256 * n.val + 256 ≤ 2048; omega⟩
theorem inbOut (n : Fin 8) : ∀ a, (![0, 256 * n.val] : Fin 2 → ℕ) a + S512x256.size a ≤ S512x2048.size a :=
  Fin.forall_fin_two.mpr ⟨Nat.le_of_eq rfl, by have := n.isLt; show 256 * n.val + 256 ≤ 2048; omega⟩

/-- Columns `256 n … 256 n + 255` of a row vector. -/
def cols (n : Fin 8) (x : Vec F S1x2048 .i32) : IVec S1x256 32 :=
  View.ld x (Rect.unit (s := S1x2048) ![0, 256 * n.val] S1x256.size (inbCols n))
/-- The block of the weights at chunk `k`, column block `n`. -/
def wBlock (n : Fin 8) (wb : Vec F S7168x2048 .bf16) (k : Fin 7) : FVec F S1024x256 .bf16 :=
  View.ld wb (Rect.unit (s := S7168x2048) ![1024 * k.val, 256 * n.val] S1024x256.size (inbW n k))

/-- The output's column block `n`. -/
def blockOut (n : Fin 8) (y : BitVec 32) (x2 : Vec F S512x7168 .i8) (x4 x6 x7 : Vec F S1x2048 .i32)
    (wb : Vec F S7168x2048 .bf16) (cs : Vec F S1x2048 .i32) : IVec S512x256 8 :=
  requant y (accBlock (k0_pay6 (F := F) x2) (wBlock n wb) (cols n x4) (cols n cs)) (cols n x6) (cols n x7)

/-- The write of column block `n`. -/
def piece (n : Fin 8) (y : BitVec 32) (x2 : Vec F S512x7168 .i8) (x4 x6 x7 : Vec F S1x2048 .i32)
    (wb : Vec F S7168x2048 .bf16) (cs : Vec F S1x2048 .i32) : View.Piece (Elt F) S512x2048 .i8 :=
  ⟨Rect.unit (s := S512x2048) ![0, 256 * n.val] S512x256.size (inbOut n), blockOut n y x2 x4 x6 x7 wb cs⟩

/-- The output's staging buffer after the body: column `j` from block `j / 256`. -/
def outBlock (y : BitVec 32) (x2 : Vec F S512x7168 .i8) (x4 x6 x7 : Vec F S1x2048 .i32)
    (wb : Vec F S7168x2048 .bf16) (cs : Vec F S1x2048 .i32) : Vec F S512x2048 .i8 := fun j =>
  blockOut ⟨(j 1).val / 256, by have h : (j 1).val < 2048 := (j 1).isLt; omega⟩ y x2 x4 x6 x7 wb cs
    (ix2 (⟨(j 0).val, (j 0).isLt⟩ : Fin 512) (⟨(j 1).val % 256, Nat.mod_lt _ (by decide)⟩ : Fin 256))

/-- Block `n`, read inside the whole. -/
theorem outBlock_emb (n : Fin 8) (y : BitVec 32) (x2 : Vec F S512x7168 .i8) (x4 x6 x7 : Vec F S1x2048 .i32)
    (wb : Vec F S7168x2048 .bf16) (cs : Vec F S1x2048 .i32) (x : S512x256.Idx) (j : S512x2048.Idx)
    (h0 : (j 0).val = (x 0).val) (h1 : (j 1).val = 256 * n.val + (x 1).val) :
    blockOut n y x2 x4 x6 x7 wb cs x = outBlock y x2 x4 x6 x7 wb cs j := by
  have hx : (x 1).val < 256 := (x 1).isLt
  unfold outBlock
  have hn : (⟨(j 1).val / 256, by have h : (j 1).val < 2048 := (j 1).isLt; omega⟩ : Fin 8) = n := Fin.ext (by show (j 1).val / 256 = n.val; omega)
  rw [hn]
  refine congrArg _ (funext fun a => Fin.ext ?_)
  match a with
  | 0 => exact h0.symm
  | 1 => show (x 1).val = (j 1).val % 256; omega

section
variable (c : Dev nD) (i : grid0.Coords)
  (arg1 : Memref sig .tc .smem S1 .i32) (harg1 : arg1.IsWhole)
  (arg2 : Memref sig .tc .smem S1 .i32) (harg2 : arg2.IsWhole)
  (arg3 : Memref sig .tc .vmem S512x7168 .i8) (harg3 : arg3.IsWhole)
  (arg4 : Memref sig .tc .vmem S7168x2048 .i8) (harg4 : arg4.IsWhole)
  (arg5 : Memref sig .tc .vmem S1x2048 .i32) (harg5 : arg5.IsWhole)
  (arg6 : Memref sig .tc .vmem S1x2048 .i32) (harg6 : arg6.IsWhole)
  (arg7 : Memref sig .tc .vmem S1x2048 .i32) (harg7 : arg7.IsWhole)
  (arg8 : Memref sig .tc .vmem S1x2048 .i32) (harg8 : arg8.IsWhole)
  (arg9 : Memref sig .tc .vmem S512x2048 .i8) (harg9 : arg9.IsWhole)
  (arg10 : Memref sig .tc .vmem S7168x2048 .bf16) (harg10 : arg10.IsWhole)
  (arg11 : Memref sig .tc .vmem S1x2048 .i32) (harg11 : arg11.IsWhole)
  (x1 : Vec F S1 .i32) (x2 : Vec F S512x7168 .i8) (x4 x6 x7 : Vec F S1x2048 .i32) (wb : Vec F S7168x2048 .bf16) (cs : Vec F S1x2048 .i32)

/-- The word the body adds before its last shift, read from the output zero point. -/
theorem yAdd_eq : restRun.sl.v57 c arg2 harg2 x1 = yAdd x1 := by
  sl_unfold_words
  unfold yAdd
  rw [View.readAt_eq_ld, harg2.read_unread]
  rw [show View.ld x1 (Rect.unit (s := S1) ![0] S1.size inb_S1_S1_0) = x1 from View.ld_unit_lit _ _ (by decide)]
  exact congrArg (fun j => Scalar.addi (Scalar.muli 2#32 (x1 j)) 1#32) (funext fun a => Fin.ext (by
    match a with
    | 0 => rfl))

set_option maxHeartbeats 400000 in
/-- What the body writes: the eight column blocks, last first. -/
theorem pieces_eq : (restRun c i arg1 harg1 arg2 harg2 arg3 harg3 arg4 harg4 arg5 harg5 arg6 harg6 arg7 harg7 arg8 harg8 arg9 harg9 arg10 harg10 arg11 harg11 x1 x2 x4 x6 x7 wb cs).1
    = [7, 6, 5, 4, 3, 2, 1, 0].map (fun n => piece n (yAdd x1) x2 x4 x6 x7 wb cs) := by
  have h : (restRun c i arg1 harg1 arg2 harg2 arg3 harg3 arg4 harg4 arg5 harg5 arg6 harg6 arg7 harg7 arg8 harg8 arg9 harg9 arg10 harg10 arg11 harg11 x1 x2 x4 x6 x7 wb cs).1
    = [7, 6, 5, 4, 3, 2, 1, 0].map (fun n => piece n (restRun.sl.v57 c arg2 harg2 x1)
        (View.ld (arg3.view.read (Elt F) (harg3.unread x2)) (Rect.unit (s := S512x7168) ![0, 0] S512x7168.size inb_S512x7168_S512x7168_0_0))
        (arg5.view.read (Elt F) (harg5.unread x4)) (arg7.view.read (Elt F) (harg7.unread x6))
        (arg8.view.read (Elt F) (harg8.unread x7)) (arg10.view.read (Elt F) (harg10.unread wb))
        (arg11.view.read (Elt F) (harg11.unread cs))) := rfl
  rw [h, yAdd_eq, harg3.read_unread, harg5.read_unread, harg7.read_unread, harg8.read_unread,
    harg10.read_unread, harg11.read_unread, View.ld_unit_lit _ _ (by decide)]
/-- Whatever the output's staging buffer held, it reads as `outBlock` after the body. -/
theorem out_read (f9 : BufTy.Contents (Elt F) arg9.view.ty) :
    arg9.view.read (Elt F) (arg9.view.writes (Elt F) f9 (restRun c i arg1 harg1 arg2 harg2 arg3 harg3 arg4 harg4 arg5 harg5 arg6 harg6 arg7 harg7 arg8 harg8 arg9 harg9 arg10 harg10 arg11 harg11 x1 x2 x4 x6 x7 wb cs).1)
      = outBlock (yAdd x1) x2 x4 x6 x7 wb cs := by
  funext j
  have hj : (j 1).val < 2048 := (j 1).isLt
  rw [pieces_eq]
  refine View.read_writes_apply_of_pieces _ _ (outBlock (yAdd x1) x2 x4 x6 x7 wb cs) _ (fun p hp x => ?_) j ?_
  · obtain ⟨n, -, rfl⟩ := List.mem_map.mp hp
    refine outBlock_emb n _ _ _ _ _ _ _ x _ ?_ ?_
    · show 0 + 1 * (x 0).val = (x 0).val; omega
    · show 256 * n.val + 1 * (x 1).val = 256 * n.val + (x 1).val; omega
  · refine ⟨_, List.mem_map.mpr ⟨(⟨(j 1).val / 256, by omega⟩ : Fin 8), ?_, rfl⟩, ?_⟩
    · generalize (⟨(j 1).val / 256, by omega⟩ : Fin 8) = n
      revert n; decide
    · refine (Rect.mem_set_unit (inb := inbOut ⟨(j 1).val / 256, by omega⟩)).mpr (Fin.forall_fin_two.mpr ⟨⟨Nat.zero_le _, ?_⟩, ?_⟩)
      · have := (j 0).isLt; show (j 0).val < 0 + 512; exact (Nat.zero_add 512).symm ▸ this
      · show 256 * ((j 1).val / 256) ≤ (j 1).val ∧ (j 1).val < 256 * ((j 1).val / 256) + 256; omega

end

end Cert.KernelIdeal.Body

end
-- ==== Proof.Init.lean ====
/-
  What the first grid point alone does, run: the counted loop over 28 chunks of 256 weight rows, then the
  store of the constant row.  The loop leaves the bf16 copy of the weights (`weightsOf`) and the column sums
  (`sumsUpto`); the store leaves `constOf`.
-/
module

public import proofs.«01_k».proof.Proof.Split
public import proofs.«01_k».proof.Proof.Gen.KernelIdeal.Skeleton
public import proofs.«01_k».proof.Proof.Gen.KernelIdeal.Points
public import proofs.«01_k».proof.Proof.Gen.KernelIdeal.Launch
public import Idealize.ShloMosaic.Lib.Exec
public import Idealize.ShloMosaic.Lib.Tactic
public import Idealize.ShloMosaic.Lib.Pipeline.ValueKit
public import Idealize.ShloMosaic.Lib.WritesUnit
public import Idealize.ShloMosaic.Lib.Pointwise

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Rows `256 k … 256 k + 255` of the weights. -/
def rowsOf (x3 : Vec F S7168x2048 .i8) (k : ℕ) : Vec F S256x2048 .i8 := fun y =>
  x3 (ix2 (⟨(256 * k + (y 0).val) % 7168, Nat.mod_lt _ (by decide)⟩ : Fin 7168) (⟨(y 1).val, (y 1).isLt⟩ : Fin 2048))

/-- The bf16 copy of the weights: row `j` comes from chunk `j / 256`. -/
def weightsOf (x3 : Vec F S7168x2048 .i8) : Vec F S7168x2048 .bf16 := fun j =>
  k0_pay3 (F := F) (rowsOf x3 ((j 0).val / 256))
    (ix2 (⟨(j 0).val % 256, Nat.mod_lt _ (by decide)⟩ : Fin 256) (⟨(j 1).val, (j 1).isLt⟩ : Fin 2048))

/-- The column sums of the first `k` chunks. -/
def sumsUpto (x3 : Vec F S7168x2048 .i8) : ℕ → IVec S1x2048 32
  | 0 => k0_pay1
  | k + 1 => k0_pay4 (F := F) (sumsUpto x3 k) (rowsOf x3 k)

/-- The constant row. -/
def constOf (v0 : Elt F .i32) (x3 : Vec F S7168x2048 .i8) (x4 x5 : Vec F S1x2048 .i32) : IVec S1x2048 32 :=
  k0_pay5 (F := F) v0 (sumsUpto x3 28) x4 x5

/-- The loop's trip `k` loads chunk `k`. -/
theorem ld_rows (i : grid0.Coords) (h : k0_cond1 i = 1#1) (k : Fin k0_t1_loop.trips) (x3 : Vec F S7168x2048 .i8) :
    View.ld x3 (Rect.unit (s := S7168x2048) (k0_off1 k) S256x2048.size (k0_off1_inb i k h)) = rowsOf x3 k.val := by
  have hk : k.val < 28 := Nat.lt_of_lt_of_le k.isLt k0_t1_abs.2.1
  funext y
  refine View.ld_unit_apply_of x3 _ _ _ y _ fun a => ?_
  have hy : (y 0).val < 256 := (y 0).isLt
  refine Eq.trans ?_ (congrArg (· + (y a).val) (congrFun (k0_off1_eq k) a).symm)
  match a with
  | 0 => show (256 * k.val + (y 0).val) % 7168 = 256 * k.val + (y 0).val; omega
  | 1 => show (y 1).val = 0 + (y 1).val; omega

section
variable (c : Dev nD) (i : grid0.Coords)
  (arg1 : Memref sig .tc .smem S1 .i32) (harg1 : arg1.IsWhole)
  (arg2 : Memref sig .tc .smem S1 .i32) (harg2 : arg2.IsWhole)
  (arg3 : Memref sig .tc .vmem S512x7168 .i8) (harg3 : arg3.IsWhole)
  (arg4 : Memref sig .tc .vmem S7168x2048 .i8) (harg4 : arg4.IsWhole)
  (arg5 : Memref sig .tc .vmem S1x2048 .i32) (harg5 : arg5.IsWhole)
  (arg6 : Memref sig .tc .vmem S1x2048 .i32) (harg6 : arg6.IsWhole)
  (arg7 : Memref sig .tc .vmem S1x2048 .i32) (harg7 : arg7.IsWhole)
  (arg8 : Memref sig .tc .vmem S1x2048 .i32) (harg8 : arg8.IsWhole)
  (arg9 : Memref sig .tc .vmem S512x2048 .i8) (harg9 : arg9.IsWhole)
  (arg10 : Memref sig .tc .vmem S7168x2048 .bf16) (harg10 : arg10.IsWhole)
  (arg11 : Memref sig .tc .vmem S1x2048 .i32) (harg11 : arg11.IsWhole)

/-- The loop's invariant before trip `k`: the weights as they are, the first `256 k` rows of the scratch
    filled, and the sums so far. -/
def loopInv (x3 : Vec F S7168x2048 .i8) (k : ℕ) (acc : IVec S1x2048 32) : sProp 𝕄 :=
  iprop((arg4.view.loc (c : Thread nD τ) ↦[arg4.view.set]{fullShare} (harg4.unread x3)) ∗ (∃ f, (arg10.view.loc (c : Thread nD τ) ↦[arg10.view.set]{fullShare} f)
    ∗ ⌜∀ j : S7168x2048.Idx, (j 0).val < 256 * k → arg10.view.read (Elt F) f j = weightsOf x3 j⌝) ∗ ⌜acc = sumsUpto x3 k⌝)

/-- What trip `k` reads of the weights, held whole. -/
theorem trip_load (x3 : Vec F S7168x2048 .i8) (h : k0_cond1 i = 1#1) (k : Fin k0_t1_loop.trips) :
    View.readAt (Elt F) arg4.view
      (Rect.unit (s := S7168x2048) (k0_off1 k) S256x2048.size (k0_off1_inb i k h)).toLoadRect (harg4.unread x3)
      = rowsOf x3 k.val := by
  rw [View.readAt_eq_ld, harg4.read_unread]; exact ld_rows i h k x3

set_option maxHeartbeats 1000000 in
/-- One trip keeps the invariant. -/
theorem loop_trip (x3 : Vec F S7168x2048 .i8) (h : k0_cond1 i = 1#1) (E : Set ℕ) (k : Fin k0_t1_loop.trips)
    (acc : IVec S1x2048 32) :
    loopInv c arg4 harg4 arg10 x3 k.val acc
      ⊢ wp frame (wpE (defs₀ (F := F)) Variants.none c none) E (k0_t1_body i arg1 harg1 arg2 harg2 arg3 harg3 arg4 harg4 arg5 harg5 arg6 harg6 arg7 harg7 arg8 harg8 arg9 harg9 arg10 harg10 arg11 harg11 h k acc)
          (fun acc' => loopInv c arg4 harg4 arg10 x3 (k.val + 1) acc') := by
  have hk : k.val < 28 := Nat.lt_of_lt_of_le k.isLt k0_t1_abs.2.1
  unfold k0_t1_body loopInv
  iintro ⟨H4, ⟨%f, H10, %hf⟩, %hacc⟩
  subst hacc
  sl_exec
  sl_step
  isplitl [H4]; · iexact H4
  isplitl [H10]
  · iexists _
    isplitl [H10]; · iexact H10
    ipureintro
    intro j hj
    rw [trip_load (h := h)]
    by_cases hlt : (j 0).val < 256 * k.val
    · rw [View.read_writes_cons_rows_of_not_mem (W := 256) arg10.view f _ _ _ j (k0_off1_eq k) rfl (.inl hlt)]
      exact hf j hlt
    · have hdiv : (j 0).val / 256 = k.val := by omega
      refine (View.read_writes_cons_rows_of_mem (size := S256x2048.size) arg10.view f _ _ _ j
        (ix2 (⟨(j 0).val % 256, Nat.mod_lt _ (by decide)⟩ : Fin 256) (⟨(j 1).val, (j 1).isLt⟩ : Fin 2048))
        (k0_off1_eq k) (by show (j 0).val = 256 * k.val + (j 0).val % 256; omega) rfl).trans ?_
      unfold weightsOf; rw [hdiv]
  ipureintro
  rw [trip_load (h := h)]; rfl

set_option maxHeartbeats 1000000 in
/-- The first point's own part: whatever the two scratch buffers held, they end at the bf16 weights and at
    the constant row; the operands stay as they are. -/
theorem init_run (v0 : Elt F .i32) (x3 : Vec F S7168x2048 .i8) (x4 x5 : Vec F S1x2048 .i32) (h : k0_cond1 i = 1#1)
    (E : Set ℕ) (K : PUnit → sProp 𝕄) :
    iprop(owns (c : Thread nD τ) arg4 fullShare x3 ∗ owns (c : Thread nD τ) arg5 fullShare x4 ∗ owns (c : Thread nD τ) arg6 fullShare x5 ∗ (∃ d, owns (c : Thread nD τ) arg10 fullShare d) ∗ (∃ d, owns (c : Thread nD τ) arg11 fullShare d)
        ∗ (iprop(owns (c : Thread nD τ) arg4 fullShare x3 ∗ owns (c : Thread nD τ) arg5 fullShare x4 ∗ owns (c : Thread nD τ) arg6 fullShare x5 ∗ owns (c : Thread nD τ) arg10 fullShare (weightsOf x3) ∗ owns (c : Thread nD τ) arg11 fullShare (constOf v0 x3 x4 x5)) -∗ K ⟨⟩))
      ⊢ wp frame (wpE (defs₀ (F := F)) Variants.none c none) E (initProg i arg1 harg1 arg2 harg2 arg3 harg3 arg4 harg4 arg5 harg5 arg6 harg6 arg7 harg7 arg8 harg8 arg9 harg9 arg10 harg10 arg11 harg11 v0 h) K := by
  have htrips : Scf.trips k0_t1_loop.lb k0_t1_loop.ub k0_t1_loop.st = 28 := by decide +kernel
  unfold initProg owns
  iintro ⟨⟨%f4, %hf4, H4⟩, ⟨%f5, %hf5, H5⟩, ⟨%f6, %hf6, H6⟩, ⟨%d10, %f10, %hf10, H10⟩, ⟨%d11, %f11, %hf11, H11⟩, Hk⟩
  obtain rfl := harg4.eq_unread hf4; obtain rfl := harg5.eq_unread hf5; obtain rfl := harg6.eq_unread hf6
  sl_for (fun k acc => loopInv c arg4 harg4 arg10 x3 k acc) $$ [H4 H10]
  · intro k acc; exact loop_trip c i arg1 harg1 arg2 harg2 arg3 harg3 arg4 harg4 arg5 harg5 arg6 harg6 arg7 harg7 arg8 harg8 arg9 harg9 arg10 harg10 arg11 harg11 x3 h E k acc
  · unfold loopInv
    isplitl [H4]; · iexact H4
    isplitl [H10]
    · iexists _; isplitl [H10]; · iexact H10
      ipureintro; intro j hj; omega
    ipureintro; rfl
  unfold loopInv
  iintro %acc ⟨H4, ⟨%g, H10, %hg⟩, %hacc⟩
  rw [htrips] at hg hacc
  obtain rfl := harg10.eq_unread (show arg10.view.read (Elt F) g = weightsOf x3 from
    funext fun j => hg j (lt_of_lt_of_eq (j 0).isLt rfl))
  subst hacc
  sl_exec
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H10]
  · iexists _; isplitr; · ipureintro; exact harg10.read_unread _
    iexact H10
  iexists _
  isplitr
  rotate_left
  · iexact H11
  ipureintro
  funext y
  refine (View.read_writes_cons_unit_of_mem (size := S1x2048.size) arg11.view f11 _ _ _ y y rfl
    (Fin.forall_fin_two.mpr ⟨(Nat.zero_add _).symm, (Nat.zero_add _).symm⟩)).trans ?_
  rw [View.readAt_eq_ld, View.readAt_eq_ld, harg5.read_unread, harg6.read_unread,
    View.ld_unit_lit _ _ (by decide), View.ld_unit_lit _ _ (by decide)]
  rfl

end

end Cert.KernelIdeal.Body

end
-- ==== Proof.Body.lean ====
/-
  The body run on whole staging buffers, at the first grid point (`first_run`) and at the others (`later_run`).
-/
module

public import proofs.«01_k».proof.Proof.Block
public import proofs.«01_k».proof.Proof.Init
public import proofs.«01_k».proof.Proof.Gen.KernelIdeal.Skeleton
public import proofs.«01_k».proof.Proof.Gen.KernelIdeal.Points
public import proofs.«01_k».proof.Proof.Gen.KernelIdeal.Launch
public import Idealize.ShloMosaic.Lib.Exec
public import Idealize.ShloMosaic.Lib.Tactic
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section
variable (c : Dev nD) (i : grid0.Coords)
  (arg1 : Memref sig .tc .smem S1 .i32) (harg1 : arg1.IsWhole)
  (arg2 : Memref sig .tc .smem S1 .i32) (harg2 : arg2.IsWhole)
  (arg3 : Memref sig .tc .vmem S512x7168 .i8) (harg3 : arg3.IsWhole)
  (arg4 : Memref sig .tc .vmem S7168x2048 .i8) (harg4 : arg4.IsWhole)
  (arg5 : Memref sig .tc .vmem S1x2048 .i32) (harg5 : arg5.IsWhole)
  (arg6 : Memref sig .tc .vmem S1x2048 .i32) (harg6 : arg6.IsWhole)
  (arg7 : Memref sig .tc .vmem S1x2048 .i32) (harg7 : arg7.IsWhole)
  (arg8 : Memref sig .tc .vmem S1x2048 .i32) (harg8 : arg8.IsWhole)
  (arg9 : Memref sig .tc .vmem S512x2048 .i8) (harg9 : arg9.IsWhole)
  (arg10 : Memref sig .tc .vmem S7168x2048 .bf16) (harg10 : arg10.IsWhole)
  (arg11 : Memref sig .tc .vmem S1x2048 .i32) (harg11 : arg11.IsWhole)

/-- Reading the one word of an SMEM operand. -/
theorem word_read (a : Memref sig .tc .smem S1 .i32) (ha : a.IsWhole) (x : Vec F S1 .i32) :
    View.readAt (Elt F) a.view (Rect.unit (s := S1) ![0] S1.size inb_S1_S1_0).toLoadRect (ha.unread x)
      (Shape.Idx.first (numel1_S1.symm ▸ Nat.one_pos)) = x (ix1 (0 : Fin 1)) := by
  rw [View.readAt_eq_ld, ha.read_unread]
  rw [show View.ld x (Rect.unit (s := S1) ![0] S1.size inb_S1_S1_0) = x from View.ld_unit_lit _ _ (by decide)]
  exact congrArg x (funext fun a => Fin.ext (by match a with | 0 => rfl))

/-- Reading the one word of an SMEM operand held whole: the operand stays as it is. -/
theorem word_run (a : Memref sig .tc .smem S1 .i32) (ha : a.IsWhole) (x : Vec F S1 .i32) (E : Set ℕ) (K : Elt F .i32 → sProp 𝕄) :
    iprop(owns (c : Thread nD τ) a fullShare x ∗ (owns (c : Thread nD τ) a fullShare x -∗ K (x (ix1 (0 : Fin 1)))))
      ⊢ wp frame (wpE (defs₀ (F := F)) Variants.none c none) E
          (smemLoad a (Rect.unit (s := S1) ![0] S1.size inb_S1_S1_0) numel1_S1 rfl) K := by
  unfold owns
  iintro ⟨⟨%f, %hf, H⟩, Hk⟩
  obtain rfl := ha.eq_unread hf
  sl_exec
  simp only [word_read a ha x]
  sl_step
  iapply Hk
  iexists _; isplitr; · ipureintro; exact ha.read_unread _
  iexact H

set_option maxHeartbeats 1000000 in
/-- The common part, from any contents of the output's staging buffer to `outBlock`. -/
theorem rest_run (x1 : Vec F S1 .i32) (x2 : Vec F S512x7168 .i8) (x4 x6 x7 : Vec F S1x2048 .i32)
    (wb : Vec F S7168x2048 .bf16) (cs : Vec F S1x2048 .i32) (d9 : Vec F S512x2048 .i8) (E : Set ℕ) (K : PUnit → sProp 𝕄) :
    iprop(owns (c : Thread nD τ) arg2 fullShare x1 ∗ owns (c : Thread nD τ) arg3 fullShare x2 ∗ owns (c : Thread nD τ) arg5 fullShare x4 ∗ owns (c : Thread nD τ) arg7 fullShare x6 ∗ owns (c : Thread nD τ) arg8 fullShare x7 ∗ owns (c : Thread nD τ) arg10 fullShare wb ∗ owns (c : Thread nD τ) arg11 fullShare cs ∗ owns (c : Thread nD τ) arg9 fullShare d9 ∗ (iprop(owns (c : Thread nD τ) arg2 fullShare x1 ∗ owns (c : Thread nD τ) arg3 fullShare x2 ∗ owns (c : Thread nD τ) arg5 fullShare x4 ∗ owns (c : Thread nD τ) arg7 fullShare x6 ∗ owns (c : Thread nD τ) arg8 fullShare x7 ∗ owns (c : Thread nD τ) arg10 fullShare wb ∗ owns (c : Thread nD τ) arg11 fullShare cs ∗ owns (c : Thread nD τ) arg9 fullShare (outBlock (yAdd x1) x2 x4 x6 x7 wb cs)) -∗ K ⟨⟩))
      ⊢ wp frame (wpE (defs₀ (F := F)) Variants.none c none) E (restProg (F := F) i arg1 harg1 arg2 harg2 arg3 harg3 arg4 harg4 arg5 harg5 arg6 harg6 arg7 harg7 arg8 harg8 arg9 harg9 arg10 harg10 arg11 harg11) K := by
  rw [show owns (c : Thread nD τ) arg9 fullShare d9
      = iprop(∃ f, ⌜arg9.view.read (Elt F) f = d9⌝ ∗ (arg9.view.loc (c : Thread nD τ) ↦[arg9.view.set]{fullShare} f)) from rfl]
  iintro ⟨H2, H3, H5, H7, H8, H10, H11, ⟨%f9, %hf9, H9⟩, Hk⟩
  iapply ((restRun c i arg1 harg1 arg2 harg2 arg3 harg3 arg4 harg4 arg5 harg5 arg6 harg6 arg7 harg7 arg8 harg8 arg9 harg9 arg10 harg10 arg11 harg11 x1 x2 x4 x6 x7 wb cs).2 f9 E _)
  isplitl [H2]; · iexact H2
  isplitl [H3]; · iexact H3
  isplitl [H5]; · iexact H5
  isplitl [H7]; · iexact H7
  isplitl [H8]; · iexact H8
  isplitl [H10]; · iexact H10
  isplitl [H11]; · iexact H11
  isplitl [H9]; · iexact H9
  iintro ⟨H2, H3, H5, H7, H8, H10, H11, H9⟩
  iapply Hk
  isplitl [H2]; · iexact H2
  isplitl [H3]; · iexact H3
  isplitl [H5]; · iexact H5
  isplitl [H7]; · iexact H7
  isplitl [H8]; · iexact H8
  isplitl [H10]; · iexact H10
  isplitl [H11]; · iexact H11
  unfold owns
  iexists _; isplitr
  · ipureintro; exact out_read c i arg1 harg1 arg2 harg2 arg3 harg3 arg4 harg4 arg5 harg5 arg6 harg6 arg7 harg7 arg8 harg8 arg9 harg9 arg10 harg10 arg11 harg11 x1 x2 x4 x6 x7 wb cs f9
  iexact H9

set_option maxHeartbeats 1000000 in
/-- The first point: whatever the output's buffer and the two scratch buffers held, the body fills them. -/
theorem first_run (x0 x1 : Vec F S1 .i32) (x2 : Vec F S512x7168 .i8) (x3 : Vec F S7168x2048 .i8) (x4 x5 x6 x7 : Vec F S1x2048 .i32) (h : k0_cond1 i = 1#1)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outBlock (yAdd x1) x2 x4 x6 x7 (weightsOf x3) (constOf (x0 (ix1 (0 : Fin 1))) x3 x4 x5)) ∗ owns (c : Thread nD τ) arg10 fullShare (weightsOf x3) ∗ owns (c : Thread nD τ) arg11 fullShare (constOf (x0 (ix1 (0 : Fin 1))) x3 x4 x5)) -∗ K ⟨⟩))
      ⊢ wp frame (wpE (defs₀ (F := F)) Variants.none c none) E (cc0_u8_linear (F := F) i arg1 harg1 arg2 harg2 arg3 harg3 arg4 harg4 arg5 harg5 arg6 harg6 arg7 harg7 arg8 harg8 arg9 harg9 arg10 harg10 arg11 harg11) K := by
  rw [body_first i arg1 harg1 arg2 harg2 arg3 harg3 arg4 harg4 arg5 harg5 arg6 harg6 arg7 harg7 arg8 harg8 arg9 harg9 arg10 harg10 arg11 harg11 h]; simp only [wp_bind]
  iintro ⟨H1, H2, H3, H4, H5, H6, H7, H8, ⟨%d9, H9⟩, H10, H11, Hk⟩
  iapply (word_run c arg1 harg1 x0 E _)
  isplitl [H1]; · iexact H1
  iintro H1
  iapply (init_run c i arg1 harg1 arg2 harg2 arg3 harg3 arg4 harg4 arg5 harg5 arg6 harg6 arg7 harg7 arg8 harg8 arg9 harg9 arg10 harg10 arg11 harg11 (x0 (ix1 (0 : Fin 1))) x3 x4 x5 h E _)
  isplitl [H4]; · iexact H4
  isplitl [H5]; · iexact H5
  isplitl [H6]; · iexact H6
  isplitl [H10]; · iexact H10
  isplitl [H11]; · iexact H11
  iintro ⟨H4, H5, H6, H10, H11⟩
  iapply (rest_run c i arg1 harg1 arg2 harg2 arg3 harg3 arg4 harg4 arg5 harg5 arg6 harg6 arg7 harg7 arg8 harg8 arg9 harg9 arg10 harg10 arg11 harg11 x1 x2 x4 x6 x7 _ _ d9 E _)
  isplitl [H2]; · iexact H2
  isplitl [H3]; · iexact H3
  isplitl [H5]; · iexact H5
  isplitl [H7]; · iexact H7
  isplitl [H8]; · iexact H8
  isplitl [H10]; · iexact H10
  isplitl [H11]; · iexact H11
  isplitl [H9]; · iexact H9
  iintro ⟨H2, H3, H5, H7, H8, H10, H11, H9⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 1000000 in
/-- Any other point: the scratch buffers hold `wb` and `cs` and keep them; the output's buffer is filled. -/
theorem later_run (x0 x1 : Vec F S1 .i32) (x2 : Vec F S512x7168 .i8) (x3 : Vec F S7168x2048 .i8) (x4 x5 x6 x7 : Vec F S1x2048 .i32) (wb : Vec F S7168x2048 .bf16) (cs : Vec F S1x2048 .i32)
    (h : ¬ k0_cond1 i = 1#1) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare wb ∗ owns (c : Thread nD τ) arg11 fullShare cs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outBlock (yAdd x1) x2 x4 x6 x7 wb cs) ∗ owns (c : Thread nD τ) arg10 fullShare wb ∗ owns (c : Thread nD τ) arg11 fullShare cs) -∗ K ⟨⟩))
      ⊢ wp frame (wpE (defs₀ (F := F)) Variants.none c none) E (cc0_u8_linear (F := F) i arg1 harg1 arg2 harg2 arg3 harg3 arg4 harg4 arg5 harg5 arg6 harg6 arg7 harg7 arg8 harg8 arg9 harg9 arg10 harg10 arg11 harg11) K := by
  rw [body_later i arg1 harg1 arg2 harg2 arg3 harg3 arg4 harg4 arg5 harg5 arg6 harg6 arg7 harg7 arg8 harg8 arg9 harg9 arg10 harg10 arg11 harg11 h]; simp only [wp_bind]
  iintro ⟨H1, H2, H3, H4, H5, H6, H7, H8, ⟨%d9, H9⟩, H10, H11, Hk⟩
  iapply (word_run c arg1 harg1 x0 E _)
  isplitl [H1]; · iexact H1
  iintro H1
  iapply (rest_run c i arg1 harg1 arg2 harg2 arg3 harg3 arg4 harg4 arg5 harg5 arg6 harg6 arg7 harg7 arg8 harg8 arg9 harg9 arg10 harg10 arg11 harg11 x1 x2 x4 x6 x7 wb cs d9 E _)
  isplitl [H2]; · iexact H2
  isplitl [H3]; · iexact H3
  isplitl [H5]; · iexact H5
  isplitl [H7]; · iexact H7
  isplitl [H8]; · iexact H8
  isplitl [H10]; · iexact H10
  isplitl [H11]; · iexact H11
  isplitl [H9]; · iexact H9
  iintro ⟨H2, H3, H5, H7, H8, H10, H11, H9⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end

end Cert.KernelIdeal.Body

end
-- ==== Proof.Run.lean ====
/-
  The kernel's run over its 48 grid points.  The pipeline's invariant carries the two scratch buffers: before the first
  point they hold anything, afterwards the bf16 weights and the constant row, which do not change.  The run ends with
  the output's array assembled from the blocks `outBlock` of the points.
-/
module

public import proofs.«01_k».proof.Proof.Body
public import Idealize.ShloMosaic.Lib.Claim
public import proofs.«01_k».proof.Proof.Gen.KernelIdeal.Skeleton
public import proofs.«01_k».proof.Proof.Gen.KernelIdeal.Points
public import proofs.«01_k».proof.Proof.Gen.KernelIdeal.Launch
public import Idealize.ShloMosaic.Lib.Exec
public import Idealize.ShloMosaic.Lib.Tactic
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point. -/
abbrev z : Fin cfg0.N := ⟨0, by rw [show cfg0.N = 48 from N_0]; decide⟩

/-- The body's condition holds at the first point only. -/
theorem cond_iff : ∀ t : Fin cfg0.N, k0_cond1 (grid0.coords t) = 1#1 ↔ t.val = 0 :=
  (fun t => by
    have ht : t.val < 48 := Nat.lt_of_lt_of_eq t.isLt N_0
    have e0 : (grid0.coords t 0).val = t.val / 1 % 48 := Pipeline.Grid.coords_val t 0 (by decide) rfl
    simp only [k0_cond1, e0]
    word_cmp
   : ∀ t : Fin grid0.N, k0_cond1 (grid0.coords t) = 1#1 ↔ t.val = 0)

abbrev ms0 (t : Fin cfg0.N) : Memref sig .tc .smem S1 .i32 := win0_0.stage (cfg0.slots t 0)
abbrev hs0 (t : Fin cfg0.N) : (ms0 t).IsWhole := hstage0_0 ((cfg0.slots t 0).cast nbuf0_0)
abbrev ms1 (t : Fin cfg0.N) : Memref sig .tc .smem S1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x7168 .i8 := win0_2.stage (cfg0.slots t 2)
abbrev hs2 (t : Fin cfg0.N) : (ms2 t).IsWhole := hstage0_2 ((cfg0.slots t 2).cast nbuf0_2)
abbrev ms3 (t : Fin cfg0.N) : Memref sig .tc .vmem S7168x2048 .i8 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2048 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x2048 .i32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x2048 .i32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x2048 .i8 := win0_8.stage (cfg0.slots t 8)
abbrev hs8 (t : Fin cfg0.N) : (ms8 t).IsWhole := hstage0_8 ((cfg0.slots t 8).cast nbuf0_8)
abbrev scW : Memref sig .tc .vmem S7168x2048 .bf16 := Memref.whole cc0_scratch0
abbrev scC : Memref sig .tc .vmem S1x2048 .i32 := Memref.whole cc0_scratch1

/-- The scratch buffers at some contents, and the generator register. -/
theorem anyScratch_eq (c : Dev nD) :
    (Pipeline.ΦA spec0 c : sProp 𝕄)
      = iprop(iprop((∃ d, owns (c : Thread nD τ) (scW) fullShare d) ∗ (∃ d, owns (c : Thread nD τ) (scC) fullShare d)) ∗ (∃ r, prngReg c r)) := by
  unfold Pipeline.ΦA; rw [scopedRest0_eq]; simp only [scW, scC, owns_whole]; try rfl

/-- The bf16 weights, from the weights' one block. -/
def wbAt (c : Dev nD) : Vec F S7168x2048 .bf16 := weightsOf (iblk m c 3 z)
/-- The constant row, from the blocks of the first point. -/
def csAt (c : Dev nD) : Vec F S1x2048 .i32 :=
  constOf (iblk m c 0 z (ix1 (0 : Fin 1))) (iblk m c 3 z) (iblk m c 4 z) (iblk m c 5 z)
/-- The output's block at point `t`. -/
def outAt (c : Dev nD) (t : Fin cfg0.N) : Vec F S512x2048 .i8 :=
  outBlock (yAdd (F := F) (iblk m c 1 t)) (iblk m c 2 t) (iblk m c 4 t) (iblk m c 6 t) (iblk m c 7 t) (wbAt m c) (csAt m c)

/-- The scratch buffers filled, and the generator register. -/
def filled (c : Dev nD) : sProp 𝕄 :=
  iprop(iprop(owns (c : Thread nD τ) (scW) fullShare (wbAt m c) ∗ owns (c : Thread nD τ) (scC) fullShare (csAt m c)) ∗ (∃ r, prngReg c r))

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := if t.val = 0 then Pipeline.ΦA spec0 c else filled m c
  q _ := fullShare
  owed _ := 0

theorem A_eq (c : Dev nD) (w : Fin cfg0.W) : (dats m 0 c).A w = V m c (Pipeline.arrRef spec0 w) := by
  dsimp only [dats]
theorem Φ_eq (c : Dev nD) (t : Fin (cfg0.N + 1)) : (dats m 0 c).Φ t = if t.val = 0 then Pipeline.ΦA spec0 c else filled m c := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))
/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl,
    after0, after1, after2, after3, after4, after5, after6, after7, after8,
    Φ_eq, Φ_eq, if_neg (show ¬ t.succ.val = 0 from Nat.succ_ne_zero _)]
  by_cases h0 : t.val = 0
  · obtain rfl : t = z := Fin.ext h0
    rw [if_pos (show z.castSucc.val = 0 from rfl), anyScratch_eq]
    unfold filled outAt wbAt csAt
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (first_run c (grid0.coords z) _ _ _ _ _ _ _ _ _ _ _ _ _ _ _ _ _ _ _ _ _ _ (iblk m c 0 z) (iblk m c 1 z) (iblk m c 2 z) (iblk m c 3 z) (iblk m c 4 z) (iblk m c 5 z) (iblk m c 6 z) (iblk m c 7 z) ((cond_iff z).mpr rfl) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [if_neg (show ¬ t.castSucc.val = 0 from h0)]
    unfold filled outAt
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (later_run c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (wbAt m c) (csAt m c) (fun h => h0 ((cond_iff t).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: the arrays at the end, and every semaphore counter zero. -/
theorem run_kernel : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => by rw [Φ_eq]; exact .rfl)
    (hout := fun c => by
      rw [Φ_eq, if_neg (show ¬ (Fin.last cfg0.N).val = 0 by rw [show (Fin.last cfg0.N).val = 48 from N_0]; decide), anyScratch_eq]
      unfold filled
      iintro ⟨⟨HS0, HS1⟩, Hg⟩
      isplitl [HS0 HS1]
      · isplitl [HS0]
        · iexists _; iexact HS0
        iexists _; iexact HS1
      iexact Hg)
    (Q' := _) (hQ' := fun _ h => h)

end Cert.KernelIdeal.Body

end
-- ==== Proof.Frames.lean ====
/-
  The frames of the kernel, of the idealised kernel and of the reference: each runs without fault, leaves its arguments as they were
  and every semaphore at zero.
-/
module

public import proofs.«01_k».proof.Proof.Run
public import proofs.«01_k».proof.Proof.Gen.ReferenceIdeal.Run
public import proofs.«01_k».proof.Proof.Gen.Kernel
public import Idealize.ShloMosaic.Lib.Claim

@[expose] public section

set_option maxRecDepth 65536

noncomputable section

namespace Cert.KernelIdeal.Body
open Idealize.ShloMosaic Idealize.SL.Sem Cert.KernelIdeal Cert.KernelIdeal.Gen

variable {F : FTy → Type} [FloatOps F]
variable (m : (ℓ : Loc nD τ sig) → Buf (Elt F) ℓ) (ρ : Dev nD → PrngReg)

/-- The kernel runs, its arguments are unchanged, every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_kernel m ρ)))
    ((θ_run defs _ _).mono (fun _ h => h.2) (run_kernel m ρ))

end Cert.KernelIdeal.Body

namespace Cert.Kernel.Body
open Idealize.ShloMosaic Idealize.SL.Sem Cert.Kernel

variable {F : FTy → Type} [FloatOps F]

/-! The kernel and the idealised kernel are printed from the same module without a rewrite: they are the same program. -/

/-- The two bodies are the same. -/
theorem body_eq : @cc0_u8_linear F _ Cert.Kernel.Gen.facts = @Cert.KernelIdeal.cc0_u8_linear F _ Cert.KernelIdeal.Gen.facts := rfl

/-- The two kernels' body tables are the same. -/
theorem defs₀_eq : defs₀ (F := F) = Cert.KernelIdeal.defs₀ (F := F) := by
  unfold Cert.Kernel.defs₀ Cert.KernelIdeal.defs₀
  refine congrArg Defs.onTc ?_
  funext l a
  rcases l with ⟨_ | n, h⟩
  · dsimp only
    rw [body_eq]
    rfl
  · exact absurd h (by omega)

/-- The two body tables are the same. -/
theorem defs_eq : defs (F := F) = Cert.KernelIdeal.defs (F := F) := by
  unfold Cert.Kernel.defs Cert.KernelIdeal.defs
  rw [defs₀_eq]
  rfl

/-- The two host programs are the same. -/
theorem main_eq : main (F := F) = Cert.KernelIdeal.main (F := F) := rfl

/-- The kernel runs, its arguments are unchanged, every semaphore ends at zero, at any float instance. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (congrArg₂ (fun d p => θ_run d (onTc (τ := τ) p) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)) (defs_eq (F := F)) main_eq).mpr (Cert.KernelIdeal.Body.frame (F := F) m ρ)

end Cert.Kernel.Body

namespace Cert.ReferenceIdeal.Value
open Idealize.ShloMosaic Idealize.SL.Sem Cert.ReferenceIdeal

variable {F : FTy → Type} [FloatOps F]

/-- The reference runs, its arguments are unchanged, every semaphore ends at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => (h c).2, sem_eq_zero_of_no_sems (by decide) r.2⟩) (run m ρ)

end Cert.ReferenceIdeal.Value
end
-- ==== Proof.Words.lean ====
/-
  The requantisation on single words: what the reference does to an accumulator, and what the kernel does to the
  accumulator biased by 2^31.
-/
module

public import Idealize.ShloMosaic.PureOps
public import Mathlib.Data.BitVec

@[expose] public section

namespace Cert.Words
open Idealize.ShloMosaic

/-- The word, negated where the bit is set. -/
def negIf (c : BitVec 1) (q : BitVec 32) : BitVec 32 := Scalar.select c (-q) q
/-- The doubling-free high multiplication of the reference, on one word. -/
def highMul (a m0 : BitVec 32) : BitVec 32 :=
  let neg := IntOp.cmpi .slt a 0#32
  let m := IntOp.absi a
  let mh := IntOp.shrui .host m 16#32
  let ml := IntOp.andi m 65535#32
  let bh := IntOp.shrui .host m0 16#32
  let bl := IntOp.andi m0 65535#32
  let lo := IntOp.muli ml bl
  let mid := IntOp.addi (IntOp.muli mh bl) (IntOp.muli ml bh)
  let low := IntOp.addi lo (IntOp.shli .host mid 16#32)
  let high := IntOp.addi (IntOp.addi (IntOp.muli mh bh) (IntOp.shrui .host mid 16#32)) ((IntOp.cmpi .ult low lo).setWidth 32)
  let low2 := IntOp.addi low (IntOp.subi 1073741824#32 (neg.setWidth 32))
  let high2 := IntOp.addi high ((IntOp.cmpi .ult low2 low).setWidth 32)
  let q := IntOp.ori (IntOp.shli .host high2 1#32) (IntOp.shrui .host low2 31#32)
  negIf neg q

/-- The rounding division of the reference by a power of two, on one word. -/
def roundingDivide (h e : BitVec 32) : BitVec 32 :=
  let mask := IntOp.subi (IntOp.shli .host 1#32 e) 1#32
  IntOp.addi (IntOp.shrsi .host h e)
    ((IntOp.cmpi .sgt (IntOp.andi h mask) (IntOp.addi (IntOp.shrsi .host mask 1#32) ((IntOp.cmpi .slt h 0#32).setWidth 32))).setWidth 32)

/-- The reference's accumulator on words: the products' sum with the zero points' corrections and the bias. -/
def accWord (x w : Fin 7168 → BitVec 8) (xz wz bias : BitVec 32) : BitVec 32 :=
  ∑ k, (x k).setWidth 32 * (w k).setWidth 32 - xz * ∑ k, (w k).setWidth 32 - wz * ∑ k, (x k).setWidth 32 + 7168#32 * xz * wz + bias

/-- The reference on words: the accumulator times the multiplier, divided with rounding, offset and clipped. -/
def refWord (acc m0 sh y : BitVec 32) : BitVec 8 :=
  (IntOp.minsi 255#32 (IntOp.maxsi 0#32 (IntOp.addi (roundingDivide (highMul acc m0) sh) y))).setWidth 8

/-- The kernel's high product on words: the biased accumulator's 64-bit product with the multiplier, with rounding,
    shifted right by 31, less the multiplier. -/
def kerHigh (u m0 : BitVec 32) : BitVec 32 :=
  let hi := IntOp.shrui .vector m0 15#32
  let lo := IntOp.andi m0 32767#32
  let a1 := IntOp.shrui .vector u 16#32
  let a0 := IntOp.andi u 65535#32
  let low := IntOp.addi (IntOp.addi (IntOp.shrui .vector (IntOp.muli a0 lo) 15#32) (IntOp.muli a0 hi)) 32768#32
  let mid := IntOp.addi (IntOp.muli a1 lo) (IntOp.shrui .vector low 1#32)
  IntOp.subi (IntOp.addi (IntOp.muli a1 hi) (IntOp.shrui .vector mid 15#32)) m0

/-- The kernel's division on words: `y2` is twice the offset plus one. -/
def kerDivide (h sh y2 : BitVec 32) : BitVec 32 :=
  IntOp.shrsi .vector (IntOp.addi (IntOp.shrsi .vector (IntOp.addi h (IntOp.shrsi .vector h 31#32)) (IntOp.subi sh 1#32)) y2) 1#32

/-- The kernel's requantisation on words. -/
def kerWord (u m0 sh y2 : BitVec 32) : BitVec 8 :=
  (IntOp.minsi 255#32 (IntOp.maxsi 0#32 (kerDivide (kerHigh u m0) sh y2))).setWidth 8

end Cert.Words
-- ==== Proof.Ints.lean ====
/-
  The integers behind the kernel's floats.  A byte less 128 is a small integer; sums and products of such integers are
  integers of the reals, exact in the extended reals; rounded and converted to 32-bit words they are those integers
  mod 2^32.  The last theorems say that the kernel's accumulator, put together from such words, is the
  reference's.
-/
module

public import proofs.«01_k».proof.Proof.Words
public import Idealize.ShloMosaic.PureOps.Ideal
public import Mathlib.Data.BitVec
public import Mathlib.Algebra.BigOperators.Fin
public import Mathlib.Tactic.Ring
public import Mathlib.Tactic.LinearCombination

@[expose] public section

namespace Cert.Words
open Idealize.ShloMosaic
open scoped BigOperators

/-- The byte, read without sign, less 128. -/
def cen (b : BitVec 8) : ℤ := (b.toNat : ℤ) - 128

/-- Flipping a byte's top bit and reading it with its sign subtracts 128. -/
theorem toInt_flip : ∀ b : BitVec 8, (b ^^^ 128#8).toInt = cen b := by
  unfold cen; decide +kernel

/-- The centred byte as a word is the byte's word less 128. -/
theorem ofInt_cen : ∀ b : BitVec 8, BitVec.ofInt 32 (cen b) = b.setWidth 32 - 128#32 := by
  unfold cen; decide +kernel

/-- A centred byte is between -128 and 128. -/
theorem abs_cen (b : BitVec 8) : |cen b| ≤ 128 := by
  have := b.isLt
  unfold cen; rw [abs_le]; constructor <;> omega

/-- An integer as an ideal value. -/
noncomputable def re (z : ℤ) : EReal := ((z : ℝ) : EReal)

/-- Products of integers are exact. -/
theorem re_mul (a b : ℤ) : re a * re b = re (a * b) := by
  unfold re; rw [Int.cast_mul, EReal.coe_mul]

/-- Sums of two integers are exact. -/
theorem re_add (a b : ℤ) : re a + re b = re (a + b) := by
  unfold re; rw [Int.cast_add, EReal.coe_add]

/-- Sums of integers are exact. -/
theorem re_sum {ι : Type} (s : Finset ι) (f : ι → ℤ) : ∑ k ∈ s, re (f k) = re (∑ k ∈ s, f k) := by
  classical
  induction s using Finset.induction_on with
  | empty => simp [re]
  | insert a s ha ih => rw [Finset.sum_insert ha, Finset.sum_insert ha, ih, re_add]

/-- An integer that fits a word converts to that word. -/
theorem fptosi_re (z : ℤ) (h : |z| < 2 ^ 31) : Ideal.fptosi 32 (re z) = BitVec.ofInt 32 z := by
  rw [abs_lt] at h
  show BitVec.ofInt 32 (max _ (min _ (if (0 : ℝ) ≤ (z : ℝ) then ⌊(z : ℝ)⌋ else ⌈(z : ℝ)⌉))) = _
  rw [Int.floor_intCast, Int.ceil_intCast, ite_self]
  congr 1
  norm_num
  norm_num at h
  omega

/-- Rounding an integer changes nothing. -/
theorem roundeven_re (z : ℤ) : Ideal.liftRound Ideal.roundHalfEven (re z) = re z := by
  have h : Ideal.roundHalfEven (z : ℝ) = z := by
    unfold Ideal.roundHalfEven
    simp
  show (((Ideal.roundHalfEven (z : ℝ) : ℤ) : ℝ) : EReal) = _
  rw [h]; rfl

/-- A sum of `n` integers of magnitude at most `B` is of magnitude at most `n * B`. -/
theorem abs_sum_le {n : ℕ} (f : Fin n → ℤ) (B : ℤ) (h : ∀ k, |f k| ≤ B) : |∑ k, f k| ≤ n * B := by
  refine (Finset.abs_sum_le_sum_abs _ _).trans ((Finset.sum_le_sum fun k _ => h k).trans (le_of_eq ?_))
  rw [Finset.sum_const, Finset.card_univ, Fintype.card_fin, nsmul_eq_mul]

/-- Words of a sum of integers add up. -/
theorem ofInt_sum {ι : Type} (s : Finset ι) (f : ι → ℤ) : BitVec.ofInt 32 (∑ k ∈ s, f k) = ∑ k ∈ s, BitVec.ofInt 32 (f k) := by
  classical
  induction s using Finset.induction_on with
  | empty => rfl
  | insert a s ha ih => rw [Finset.sum_insert ha, Finset.sum_insert ha, BitVec.ofInt_add, ih]

/-- A sum over `m * n` places is a sum of `m` chunks of `n`. -/
theorem sum_chunks {M : Type} [AddCommMonoid M] {N : ℕ} (m n : ℕ) (e : m * n = N) (f : Fin N → M) :
    ∑ k, f k = ∑ c : Fin m, ∑ j : Fin n, f ⟨n * c.val + j.val, by
      have hc := c.isLt; have hj := j.isLt
      calc n * c.val + j.val < n * c.val + n := by omega
        _ = n * (c.val + 1) := by ring
        _ ≤ n * m := Nat.mul_le_mul_left _ hc
        _ = N := by rw [Nat.mul_comm]; exact e⟩ := by
  subst e
  rw [← finProdFinEquiv.sum_comp, Fintype.sum_prod_type]
  refine Finset.sum_congr rfl fun c _ => Finset.sum_congr rfl fun j _ => congrArg f (Fin.ext ?_)
  exact Nat.add_comm j.val (n * c.val)

/-- The sum of products of centred bytes, opened. -/
theorem sum_centred (x w : Fin 7168 → BitVec 8) :
    ∑ k, ((x k).setWidth 32 - 128#32) * ((w k).setWidth 32 - 128#32)
      = ∑ k, (x k).setWidth 32 * (w k).setWidth 32 - 128#32 * ∑ k, (w k).setWidth 32 - 128#32 * ∑ k, (x k).setWidth 32
        + 7168#32 * 128#32 * 128#32 := by
  have e : ∀ k, ((x k).setWidth 32 - 128#32) * ((w k).setWidth 32 - 128#32)
      = (x k).setWidth 32 * (w k).setWidth 32 - 128#32 * (w k).setWidth 32 - 128#32 * (x k).setWidth 32 + 128#32 * 128#32 :=
    fun k => by ring
  rw [Finset.sum_congr rfl fun k _ => e k, Finset.sum_add_distrib, Finset.sum_sub_distrib, Finset.sum_sub_distrib,
    ← Finset.mul_sum, ← Finset.mul_sum, Finset.sum_const, Finset.card_univ, Fintype.card_fin]
  rfl

/-- The sum of centred bytes, opened. -/
theorem sum_centred_one (x : Fin 7168 → BitVec 8) :
    ∑ k, ((x k).setWidth 32 - 128#32) = ∑ k, (x k).setWidth 32 - 7168#32 * 128#32 := by
  rw [Finset.sum_sub_distrib, Finset.sum_const, Finset.card_univ, Fintype.card_fin]
  rfl

/-- The kernel's accumulator, from the sums of centred bytes and the centred zero points, is the reference's, biased by 2^31. -/
theorem acc_eq (x w : Fin 7168 → BitVec 8) (xz wz bias : BitVec 32) :
    (∑ k, ((x k).setWidth 32 - 128#32)) * (128#32 - wz)
      + ((128#32 - xz) * (∑ k, ((w k).setWidth 32 - 128#32)) + 7168#32 * (128#32 - xz) * (128#32 - wz) + bias + 2147483648#32)
      + ∑ k, ((x k).setWidth 32 - 128#32) * ((w k).setWidth 32 - 128#32)
      = accWord x w xz wz bias + 2147483648#32 := by
  rw [sum_centred, sum_centred_one, sum_centred_one]
  unfold accWord
  generalize (∑ k, (x k).setWidth 32 * (w k).setWidth 32 : BitVec 32) = P
  generalize (∑ k, (x k).setWidth 32 : BitVec 32) = A
  generalize (∑ k, (w k).setWidth 32 : BitVec 32) = B
  generalize (7168#32 : BitVec 32) = K
  generalize (128#32 : BitVec 32) = h
  generalize (2147483648#32 : BitVec 32) = t
  ring

/-- A word is the word of its signed value. -/
theorem ofInt_self (b : BitVec 32) : BitVec.ofInt 32 b.toInt = b := BitVec.ofInt_toInt

/-- The accumulator word is that of the integer `∑ (x - x_zp) (w - w_zp) + bias`. -/
theorem accWord_ofInt (x w : Fin 7168 → BitVec 8) (xz wz bias : BitVec 32) :
    accWord x w xz wz bias
      = BitVec.ofInt 32 (∑ k, (((x k).toNat : ℤ) - xz.toInt) * (((w k).toNat : ℤ) - wz.toInt) + bias.toInt) := by
  have hb : ∀ b : BitVec 8, BitVec.ofInt 32 (b.toNat : ℤ) = b.setWidth 32 := by decide +kernel
  have e : ∀ k, BitVec.ofInt 32 ((((x k).toNat : ℤ) - xz.toInt) * (((w k).toNat : ℤ) - wz.toInt))
      = (x k).setWidth 32 * (w k).setWidth 32 - xz * (w k).setWidth 32 - wz * (x k).setWidth 32 + xz * wz := fun k => by
    rw [BitVec.ofInt_mul, sub_eq_add_neg, sub_eq_add_neg, BitVec.ofInt_add, BitVec.ofInt_add, BitVec.ofInt_neg, BitVec.ofInt_neg,
      hb, hb, ofInt_self, ofInt_self]
    ring
  rw [BitVec.ofInt_add, ofInt_sum, Finset.sum_congr rfl fun k _ => e k, ofInt_self, Finset.sum_add_distrib, Finset.sum_sub_distrib,
    Finset.sum_sub_distrib, ← Finset.mul_sum, ← Finset.mul_sum, Finset.sum_const, Finset.card_univ, Fintype.card_fin]
  unfold accWord
  have : (7168 : ℕ) • (xz * wz) = 7168#32 * xz * wz := by rw [nsmul_eq_mul, mul_assoc]; rfl
  rw [this]

/-- With zero points that are bytes and a bias of at most 2^30, the accumulator is at most 1539841024 = 7168 * 255^2 + 2^30 in magnitude. -/
theorem abs_accWord (x w : Fin 7168 → BitVec 8) (xz wz bias : BitVec 32) (hx0 : 0 ≤ xz.toInt) (hx1 : xz.toInt ≤ 255)
    (hw0 : 0 ≤ wz.toInt) (hw1 : wz.toInt ≤ 255) (hb0 : -1073741824 ≤ bias.toInt) (hb1 : bias.toInt ≤ 1073741824) :
    |(accWord x w xz wz bias).toInt| ≤ 1539841024 := by
  have one : ∀ (b : BitVec 8) (z : ℤ), 0 ≤ z → z ≤ 255 → |(b.toNat : ℤ) - z| ≤ 255 := fun b z h0 h1 => by
    have := b.isLt
    rw [abs_le]; constructor <;> omega
  have h := abs_sum_le (fun k => (((x k).toNat : ℤ) - xz.toInt) * (((w k).toNat : ℤ) - wz.toInt)) (255 * 255) fun k => by
    rw [abs_mul]
    exact mul_le_mul (one _ _ hx0 hx1) (one _ _ hw0 hw1) (abs_nonneg _) (by norm_num)
  rw [accWord_ofInt]
  generalize (∑ k, (((x k).toNat : ℤ) - xz.toInt) * (((w k).toNat : ℤ) - wz.toInt)) = S at h ⊢
  norm_num at h
  rw [abs_le] at h
  rw [BitVec.toInt_ofInt, Int.bmod_eq_of_le (by norm_num; omega) (by norm_num; omega), abs_le]
  omega

end Cert.Words
-- ==== Proof.KernelWord.lean ====
/-
  The kernel's block arithmetic read at one element, at the ideal values: what `outBlock` holds at row `i`, column `j` is the
  word function `kerWord` of the reference's accumulator biased by 2^31.
-/
module

public import proofs.«01_k».proof.Proof.Ints
public import proofs.«01_k».proof.Proof.Block
public import proofs.«01_k».proof.Proof.Init
public import Idealize.ShloMosaic.Lib.BitcastFour
public import Idealize.ShloMosaic.Lib.ValueIdx
public import Idealize.ShloMosaic.Lib.MatmulPlain
public import Idealize.ShloMosaic.PureOps.Ideal.Laws
public import Idealize.ShloMosaic.Lib.Pointwise

@[expose] public section

set_option maxRecDepth 16384

noncomputable section

namespace Cert.KernelIdeal.Body

open Cert.KernelIdeal Cert.KernelIdeal.Gen Cert.Words
open Idealize.ShloMosaic
open scoped BigOperators

/-- Bit `q` of the word 0x80808080 is bit `q % 8` of the byte 0x80. -/
theorem mask_bit : ∀ q : Fin 32, (2155905152#32).getLsbD q.val = (128#8).getLsbD (q.val % 8) := by decide

/-- Bytes read as words, each word's four top bits flipped, read as bytes again: every byte's top bit is flipped. -/
theorem flip_apply {R r n : ℕ} (hR : R = 4 * r) (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (p : Fin R) (l : Fin n) :
    bitcast ⟨2, ![R, n]⟩ 8 (xori (bitcast ⟨2, ![r, n]⟩ 32 x h) (broadcast ⟨2, ![r, n]⟩ 2155905152#32)) h' (ix2 p l)
      = x (ix2 p l) ^^^ 128#8 := by
  apply BitVec.eq_of_getLsbD_eq
  intro q hq
  rw [bitcast_getLsbD _ h' _ q hq (by decide), BitVec.getLsbD_xor]
  have hrow : (⟨2, ![R, n]⟩ : Shape).row (ix2 p l) = p.val := rfl
  have hp := p.isLt
  have ha : p.val / 4 < r := by omega
  have hidx : ∀ hh, h'.srcIdx (ix2 p l) (((⟨2, ![R, n]⟩ : Shape).row (ix2 p l) * 8 + q) / 32) hh = ix2 ⟨p.val / 4, ha⟩ l := fun hh => by
    funext c
    match c with
    | ⟨0, _⟩ => exact Fin.ext ((h'.srcIdx_row _ _ _ ⟨0, Nat.zero_lt_two⟩ rfl).trans (by rw [hrow]; show (p.val * 8 + q) / 32 = p.val / 4; omega))
    | ⟨1, _⟩ => exact Fin.ext (h'.srcIdx_other _ _ _ ⟨1, Nat.one_lt_two⟩ (by show ¬ 1 + 2 = 2; omega))
  rw [hidx, hrow]
  have hm : (p.val * 8 + q) % 32 < 32 := Nat.mod_lt _ (by decide)
  show (bitcast ⟨2, ![r, n]⟩ 32 x h (ix2 ⟨p.val / 4, ha⟩ l) ^^^ 2155905152#32).getLsbD _ = _
  have hw : (bitcast ⟨2, ![r, n]⟩ 32 x h (ix2 ⟨p.val / 4, ha⟩ l)).getLsbD ((p.val * 8 + q) % 32)
      = (x (ix2 p l)).getLsbD ((p.val * 8 + q) % 32 % 8) :=
    bitcast_8_32_getLsbD_ix2 x h ⟨p.val / 4, ha⟩ l _ hm p (by show p.val = 4 * (p.val / 4) + (p.val * 8 + q) % 32 / 8; omega)
  have e8 : (p.val * 8 + q) % 32 % 8 = q := by omega
  have hk : (2155905152#32).getLsbD ((p.val * 8 + q) % 32) = (128#8).getLsbD ((p.val * 8 + q) % 32 % 8) := mask_bit ⟨_, hm⟩
  rw [BitVec.getLsbD_xor, hw, hk, e8]

/-- The centred input rows at an element. -/
theorem pay6_apply (x : Vec Ideal S512x7168 .i8) (i : Fin 512) (k : Fin 7168) :
    k0_pay6 (F := Ideal) x (ix2 i k) = re (cen (x (ix2 i k))) := by
  have e : shapeCast S512x7168 x shapeCasts_S512x7168_S512x7168 = x := shapeCast_self x _
  unfold k0_pay6
  rw [e]
  show (((bitcast (⟨2, ![512, 7168]⟩ : Shape) 8 _ _ (ix2 i k)).toInt : ℝ) : EReal) = _
  rw [flip_apply (by norm_num), toInt_flip]
  rfl

/-- The centred weights at an element. -/
theorem pay2_apply (x : Vec Ideal S256x2048 .i8) (i : Fin 256) (k : Fin 2048) :
    k0_pay2 (F := Ideal) x (ix2 i k) = re (cen (x (ix2 i k))) := by
  unfold k0_pay2
  show (((bitcast (⟨2, ![256, 2048]⟩ : Shape) 8 _ _ (ix2 i k)).toInt : ℝ) : EReal) = _
  rw [flip_apply (by norm_num), toInt_flip]
  rfl

/-- … and as stored. -/
theorem pay3_apply (x : Vec Ideal S256x2048 .i8) (i : Fin 256) (k : Fin 2048) :
    k0_pay3 (F := Ideal) x (ix2 i k) = re (cen (x (ix2 i k))) := by
  unfold k0_pay3
  rw [shapeCast_self]
  exact pay2_apply x i k

/-- One chunk's column sums. -/
theorem pay4_apply (s : IVec S1x2048 32) (x : Vec Ideal S256x2048 .i8) (n : Fin 2048) :
    k0_pay4 (F := Ideal) s x (ix2 0 n) = s (ix2 0 n) + ∑ k : Fin 256, ((x (ix2 k n)).setWidth 32 - 128#32) := by
  unfold k0_pay4
  show s (ix2 0 n) + Ideal.fptosi 32 (shapeCast S1x2048 _ shapeCasts_S2048_S1x2048 (ix2 0 n)) = _
  have hc : ∀ v : FVec Ideal S2048 .f32, shapeCast S1x2048 v shapeCasts_S2048_S1x2048 (ix2 0 n) = v (ix1 n) := fun v => by
    pointwise
  rw [hc]
  have hm : multiReduction (F := Ideal) .add [0] S2048 (extf .f32 (k0_pay2 (F := Ideal) x) bitsLt_bf16_f32) 0x00000000#32
        reduces_S256x2048_S2048 (.inl rfl) rfl (ix1 n)
      = ∑ k : Fin 256, (extf .f32 (k0_pay2 (F := Ideal) x) bitsLt_bf16_f32 : FVec Ideal S256x2048 .f32) (reduces_S256x2048_S2048.lift (ix1 n) k) :=
    Ideal.multiReduction_add_single _ _ _ _ _ _
  have hl : ∀ k : Fin 256, (extf .f32 (k0_pay2 (F := Ideal) x) bitsLt_bf16_f32 : FVec Ideal S256x2048 .f32) (reduces_S256x2048_S2048.lift (ix1 n) k)
      = re (cen (x (ix2 k n))) := fun k => by
    show k0_pay2 (F := Ideal) x _ = _
    rw [← pay2_apply]
    refine congrArg _ (funext fun a => Fin.ext ?_)
    match a with
    | 0 => rfl
    | 1 => rfl
  have hs := Finset.sum_congr (rfl : (Finset.univ : Finset (Fin 256)) = _) fun k _ => hl k
  have hb := abs_sum_le (fun k : Fin 256 => cen (x (ix2 k n))) 128 fun k => abs_cen _
  refine congrArg (s (ix2 0 n) + ·) ((congrArg (Ideal.fptosi 32) (hm.trans (hs.trans (re_sum _ _)))).trans ?_)
  rw [fptosi_re _ (lt_of_le_of_lt hb (by norm_num)), ofInt_sum]
  exact Finset.sum_congr rfl fun k _ => ofInt_cen _

/-- Chunk `k` of the centred input at an element. -/
theorem xChunk_apply (x : Vec Ideal S512x7168 .i8) (k : Fin 7) (i : Fin 512) (j : Fin 1024) :
    xChunk (k0_pay6 (F := Ideal) x) k (ix2 i j)
      = re (cen (x (ix2 i ⟨1024 * k.val + j.val, by have := k.isLt; have := j.isLt; omega⟩))) := by
  rw [← pay6_apply]
  unfold xChunk extractStridedSlice
  refine congrArg _ (funext fun a => Fin.ext ?_)
  match a with
  | 0 => show 0 + i.val = i.val; omega
  | 1 => rfl

/-- Adding a chunk's row sums. -/
theorem addRow_apply (x : Vec Ideal S512x7168 .i8) (s : IVec S512x1 32) (k : Fin 7) (i : Fin 512) :
    addRow (k0_pay6 (F := Ideal) x) s k (ix2 i 0)
      = s (ix2 i 0) + ∑ j : Fin 1024, ((x (ix2 i ⟨1024 * k.val + j.val, by have := k.isLt; have := j.isLt; omega⟩)).setWidth 32 - 128#32) := by
  unfold addRow
  show s (ix2 i 0) + Ideal.fptosi 32 (shapeCast S512x1 _ shapeCasts_S512_S512x1 (ix2 i 0)) = _
  have hc : ∀ v : FVec Ideal S512 .f32, shapeCast S512x1 v shapeCasts_S512_S512x1 (ix2 i 0) = v (ix1 i) := fun v => by
    pointwise
  rw [hc]
  have hm : multiReduction (F := Ideal) .add [1] S512 (extf .f32 (xChunk (k0_pay6 (F := Ideal) x) k) bitsLt_bf16_f32) 0x00000000#32
        reduces_S512x1024_S512 (.inl rfl) rfl (ix1 i)
      = ∑ j : Fin 1024, (extf .f32 (xChunk (k0_pay6 (F := Ideal) x) k) bitsLt_bf16_f32 : FVec Ideal S512x1024 .f32) (reduces_S512x1024_S512.lift (ix1 i) j) :=
    Ideal.multiReduction_add_single _ _ _ _ _ _
  have hl : ∀ j : Fin 1024, (extf .f32 (xChunk (k0_pay6 (F := Ideal) x) k) bitsLt_bf16_f32 : FVec Ideal S512x1024 .f32) (reduces_S512x1024_S512.lift (ix1 i) j)
      = re (cen (x (ix2 i ⟨1024 * k.val + j.val, by have := k.isLt; have := j.isLt; omega⟩))) := fun j => by
    show xChunk (k0_pay6 (F := Ideal) x) k _ = _
    rw [← xChunk_apply]
    refine congrArg _ (funext fun a => Fin.ext ?_)
    match a with
    | 0 => rfl
    | 1 => rfl
  have hs := Finset.sum_congr (rfl : (Finset.univ : Finset (Fin 1024)) = _) fun k _ => hl k
  have hb := abs_sum_le (fun j : Fin 1024 => cen (x (ix2 i ⟨1024 * k.val + j.val, by have := k.isLt; have := j.isLt; omega⟩))) 128 fun k => abs_cen _
  refine congrArg (s (ix2 i 0) + ·) ((congrArg (Ideal.fptosi 32) (hm.trans (hs.trans (re_sum _ _)))).trans ?_)
  rw [fptosi_re _ (lt_of_le_of_lt hb (by norm_num)), ofInt_sum]
  exact Finset.sum_congr rfl fun k _ => ofInt_cen _

/-- Seven additions one after the other are the sum over the seven. -/
theorem fold7 {V : Type} {I : Type} (g : V → Fin 7 → V) (f : Fin 7 → BitVec 32) (at' : V → I → BitVec 32) (i : I)
    (h : ∀ v k, at' (g v k) i = at' v i + f k) (v : V) :
    at' ([0, 1, 2, 3, 4, 5, 6].foldl g v) i = at' v i + ∑ k : Fin 7, f k := by
  simp only [List.foldl_cons, List.foldl_nil, h, Fin.sum_univ_seven]
  ring

/-- The row sums are the sums of the centred rows. -/
theorem rowSums_apply (x : Vec Ideal S512x7168 .i8) (i : Fin 512) :
    rowSums (k0_pay6 (F := Ideal) x) (ix2 i 0) = ∑ k : Fin 7168, ((x (ix2 i k)).setWidth 32 - 128#32) := by
  unfold rowSums
  rw [fold7 (V := IVec S512x1 32) (addRow (k0_pay6 (F := Ideal) x)) _ (fun v j => v j) (ix2 i 0) (fun v k => addRow_apply x v k i),
    sum_chunks 7 1024 (by norm_num) fun k : Fin 7168 => ((x (ix2 i k)).setWidth 32 - 128#32 : BitVec 32)]
  exact zero_add _

/-- Adding a chunk's product, where the weights' block holds centred bytes. -/
theorem addDot_apply (x : Vec Ideal S512x7168 .i8) (w : Fin 7 → FVec Ideal S1024x256 .bf16) (b : Fin 7168 → Fin 256 → BitVec 8)
    (hw : ∀ (k : Fin 7) (j : Fin 1024) (n : Fin 256),
      w k (ix2 j n) = re (cen (b ⟨1024 * k.val + j.val, by have := k.isLt; have := j.isLt; omega⟩ n)))
    (s : IVec S512x256 32) (k : Fin 7) (i : Fin 512) (n : Fin 256) :
    addDot (k0_pay6 (F := Ideal) x) w s k (ix2 i n)
      = s (ix2 i n) + ∑ j : Fin 1024, (fun l : Fin 7168 => ((x (ix2 i l)).setWidth 32 - 128#32) * ((b l n).setWidth 32 - 128#32))
          ⟨1024 * k.val + j.val, by have := k.isLt; have := j.isLt; omega⟩ := by
  unfold addDot
  show s (ix2 i n) + Ideal.fptosi 32 (Ideal.liftRound Ideal.roundHalfEven
    (FloatOps.matmul (DotDims.plain 512 1024 256) none (xChunk (k0_pay6 (F := Ideal) x) k) (w k) (constant S512x256 .f32 0x00000000#32) (ix2 i n))) = _
  have hmm : (FloatOps.matmul (DotDims.plain 512 1024 256) none (xChunk (k0_pay6 (F := Ideal) x) k) (w k) (constant S512x256 .f32 0x00000000#32) (ix2 i n) : EReal)
      = constant (F := Ideal) S512x256 .f32 0x00000000#32 (ix2 i n) + ∑ j : Fin 1024, xChunk (k0_pay6 (F := Ideal) x) k (ix2 i j) * w k (ix2 j n) :=
    Ideal.matmul_plain_apply none _ _ _ i n
  have hz : (constant (F := Ideal) S512x256 .f32 0x00000000#32) (ix2 i n) = 0 := Ideal.ofBits_zero_f32
  rw [hmm, hz, zero_add]
  have hs : ∑ j : Fin 1024, xChunk (k0_pay6 (F := Ideal) x) k (ix2 i j) * w k (ix2 j n)
      = re (∑ j : Fin 1024, (fun l : Fin 7168 => cen (x (ix2 i l)) * cen (b l n)) ⟨1024 * k.val + j.val, by have := k.isLt; have := j.isLt; omega⟩) := by
    rw [← re_sum]
    exact Finset.sum_congr rfl fun j _ => by rw [xChunk_apply, hw, re_mul]
  rw [hs, roundeven_re]
  have hb := abs_sum_le (fun j : Fin 1024 => (fun l : Fin 7168 => cen (x (ix2 i l)) * cen (b l n)) ⟨1024 * k.val + j.val, by have := k.isLt; have := j.isLt; omega⟩)
    (128 * 128) fun j => by
      show |cen _ * cen _| ≤ _
      rw [abs_mul]
      exact mul_le_mul (abs_cen _) (abs_cen _) (abs_nonneg _) (by norm_num)
  rw [fptosi_re _ (lt_of_le_of_lt hb (by norm_num)), ofInt_sum]
  refine congrArg (s (ix2 i n) + ·) (Finset.sum_congr rfl fun j _ => ?_)
  show BitVec.ofInt 32 (cen _ * cen _) = _
  rw [BitVec.ofInt_mul, ofInt_cen, ofInt_cen]

/-- The biased accumulator of a block, at an element. -/
theorem accBlock_apply (x : Vec Ideal S512x7168 .i8) (w : Fin 7 → FVec Ideal S1024x256 .bf16) (b : Fin 7168 → Fin 256 → BitVec 8)
    (hw : ∀ (k : Fin 7) (j : Fin 1024) (n : Fin 256),
      w k (ix2 j n) = re (cen (b ⟨1024 * k.val + j.val, by have := k.isLt; have := j.isLt; omega⟩ n)))
    (wz cs : IVec S1x256 32) (i : Fin 512) (n : Fin 256) :
    accBlock (k0_pay6 (F := Ideal) x) w wz cs (ix2 i n)
      = (∑ k : Fin 7168, ((x (ix2 i k)).setWidth 32 - 128#32)) * (128#32 - wz (ix2 0 n)) + cs (ix2 0 n)
        + ∑ k : Fin 7168, ((x (ix2 i k)).setWidth 32 - 128#32) * ((b k n).setWidth 32 - 128#32) := by
  unfold accBlock
  refine (fold7 (V := IVec S512x256 32) (addDot (k0_pay6 (F := Ideal) x) w) _ (fun v j => v j) (ix2 i n) (fun v k => addDot_apply x w b hw v k i n) _).trans ?_
  refine congrArg₂ (· + ·) ?_
    (sum_chunks 7 1024 (by norm_num) fun k : Fin 7168 => ((x (ix2 i k)).setWidth 32 - 128#32) * ((b k n).setWidth 32 - 128#32)).symm
  rw [← rowSums_apply, shapeCast_self]
  have e1 : ∀ v : IVec S512x1 32, broadcastTo S512x256 v broadcasts_S512x1_S512x256 (ix2 i n) = v (ix2 i 0) := fun v => by pointwise
  have e2 : ∀ v : IVec S1x256 32, broadcastTo S512x256 v broadcasts_S1x256_S512x256 (ix2 i n) = v (ix2 0 n) := fun v => by pointwise
  show broadcastTo S512x256 _ broadcasts_S512x1_S512x256 (ix2 i n) * broadcastTo S512x256 _ broadcasts_S1x256_S512x256 (ix2 i n)
    + broadcastTo S512x256 _ broadcasts_S1x256_S512x256 (ix2 i n) = _
  rw [e1, e2, e2]
  rfl

/-- The requantisation at an element. -/
theorem requant_apply (y : BitVec 32) (acc : IVec S512x256 32) (m0 sh : IVec S1x256 32) (i : Fin 512) (n : Fin 256) :
    requant y acc m0 sh (ix2 i n) = kerWord (acc (ix2 i n)) (m0 (ix2 0 n)) (sh (ix2 0 n)) y := by
  have e2 : ∀ v : IVec S1x256 32, broadcastTo S512x256 v broadcasts_S1x256_S512x256 (ix2 i n) = v (ix2 0 n) := fun v => by pointwise
  unfold requant kerWord kerDivide kerHigh
  simp only [shapeCast_self]
  simp only [trunci, minsi, maxsi, shrsi, addi, subi, muli, andi, shrui, ValueIdx.broadcast_apply, e2]

end Cert.KernelIdeal.Body

end
-- ==== Proof.OutWord.lean ====
/-
  The kernel's output block at one element, from the blocks it reads: the word function `kerWord` of the reference's accumulator
  biased by 2^31.
-/
module

public import proofs.«01_k».proof.Proof.KernelWord

@[expose] public section

set_option maxRecDepth 16384

noncomputable section

namespace Cert.KernelIdeal.Body

open Cert.KernelIdeal Cert.KernelIdeal.Gen Cert.Words
open Idealize.ShloMosaic
open scoped BigOperators

/-- The bf16 copy of the weights holds the centred codes. -/
theorem weightsOf_apply (x3 : Vec Ideal S7168x2048 .i8) (k : Fin 7168) (n : Fin 2048) :
    weightsOf (F := Ideal) x3 (ix2 k n) = re (cen (x3 (ix2 k n))) := by
  unfold weightsOf
  rw [pay3_apply]
  unfold rowsOf
  refine congrArg (fun i => re (cen (x3 i))) (funext fun a => Fin.ext ?_)
  have hk := k.isLt
  match a with
  | 0 => show (256 * (k.val / 256) + k.val % 256) % 7168 = k.val; omega
  | 1 => rfl

/-- The column sums of the first `K` chunks. -/
theorem sumsUpto_apply (x3 : Vec Ideal S7168x2048 .i8) (n : Fin 2048) (K : ℕ) :
    sumsUpto (F := Ideal) x3 K (ix2 0 n)
      = ∑ c : Fin K, ∑ j : Fin 256, ((rowsOf (F := Ideal) x3 c.val (ix2 j n)).setWidth 32 - 128#32) := by
  induction K with
  | zero => rfl
  | succ K ih =>
    rw [Fin.sum_univ_castSucc]
    show k0_pay4 (F := Ideal) (sumsUpto (F := Ideal) x3 K) (rowsOf (F := Ideal) x3 K) (ix2 0 n) = _
    rw [pay4_apply, ih]
    rfl

/-- The column sums of all the chunks are the sums of the centred columns. -/
theorem sums_apply (x3 : Vec Ideal S7168x2048 .i8) (n : Fin 2048) :
    sumsUpto (F := Ideal) x3 28 (ix2 0 n) = ∑ k : Fin 7168, ((x3 (ix2 k n)).setWidth 32 - 128#32) := by
  rw [sumsUpto_apply, sum_chunks 28 256 (by norm_num) fun k : Fin 7168 => ((x3 (ix2 k n)).setWidth 32 - 128#32 : BitVec 32)]
  refine Finset.sum_congr rfl fun c _ => Finset.sum_congr rfl fun j _ => ?_
  unfold rowsOf
  refine congrArg (fun i => ((x3 i).setWidth 32 - 128#32 : BitVec 32)) (funext fun a => Fin.ext ?_)
  have hc := c.isLt
  have hj := j.isLt
  match a with
  | 0 => show (256 * c.val + j.val) % 7168 = 256 * c.val + j.val; omega
  | 1 => rfl

/-- The constant row at a column. -/
theorem constOf_apply (v0 : BitVec 32) (x3 : Vec Ideal S7168x2048 .i8) (x4 x5 : Vec Ideal S1x2048 .i32) (n : Fin 2048) :
    constOf (F := Ideal) v0 x3 x4 x5 (ix2 0 n)
      = (128#32 - v0) * (∑ k : Fin 7168, ((x3 (ix2 k n)).setWidth 32 - 128#32)) + 7168#32 * (128#32 - v0) * (128#32 - x4 (ix2 0 n))
        + x5 (ix2 0 n) + 2147483648#32 := by
  rw [← sums_apply]
  unfold constOf k0_pay5
  simp only [shapeCast_self]
  rfl

/-- A column block at a column. -/
theorem cols_apply (b : Fin 8) (x : Vec Ideal S1x2048 .i32) (j : Fin 256) :
    cols (F := Ideal) b x (ix2 0 j) = x (ix2 0 ⟨256 * b.val + j.val, by have := b.isLt; have := j.isLt; omega⟩) := by
  show x _ = x _
  refine congrArg x (funext fun a => Fin.ext ?_)
  match a with
  | 0 => rfl
  | 1 => show 256 * b.val + 1 * j.val = 256 * b.val + j.val; omega

/-- A block of the weights at an element. -/
theorem wBlock_apply (b : Fin 8) (x3 : Vec Ideal S7168x2048 .i8) (k : Fin 7) (i : Fin 1024) (j : Fin 256) :
    wBlock (F := Ideal) b (weightsOf (F := Ideal) x3) k (ix2 i j)
      = re (cen (x3 (ix2 ⟨1024 * k.val + i.val, by have := k.isLt; have := i.isLt; omega⟩
          ⟨256 * b.val + j.val, by have := b.isLt; have := j.isLt; omega⟩))) := by
  rw [← weightsOf_apply]
  show weightsOf (F := Ideal) x3 _ = weightsOf (F := Ideal) x3 _
  refine congrArg _ (funext fun a => Fin.ext ?_)
  match a with
  | 0 => show 1024 * k.val + 1 * i.val = 1024 * k.val + i.val; omega
  | 1 => show 256 * b.val + 1 * j.val = 256 * b.val + j.val; omega

/-- The output block at an element. -/
theorem outBlock_apply (y v0 : BitVec 32) (x2 : Vec Ideal S512x7168 .i8) (x3 : Vec Ideal S7168x2048 .i8)
    (x4 x5 x6 x7 : Vec Ideal S1x2048 .i32) (i : Fin 512) (n : Fin 2048) :
    outBlock (F := Ideal) y x2 x4 x6 x7 (weightsOf (F := Ideal) x3) (constOf (F := Ideal) v0 x3 x4 x5) (ix2 i n)
      = kerWord (accWord (fun k => x2 (ix2 i k)) (fun k => x3 (ix2 k n)) v0 (x4 (ix2 0 n)) (x5 (ix2 0 n)) + 2147483648#32)
          (x6 (ix2 0 n)) (x7 (ix2 0 n)) y := by
  obtain ⟨b, j, rfl⟩ : ∃ (b : Fin 8) (j : Fin 256), n = ⟨256 * b.val + j.val, by have := b.isLt; have := j.isLt; omega⟩ :=
    ⟨⟨n.val / 256, by have := n.isLt; omega⟩, ⟨n.val % 256, Nat.mod_lt _ (by decide)⟩, Fin.ext (by show n.val = 256 * (n.val / 256) + n.val % 256; omega)⟩
  rw [← outBlock_emb b y x2 x4 x6 x7 (weightsOf (F := Ideal) x3) (constOf (F := Ideal) v0 x3 x4 x5) (ix2 i j) _ rfl rfl]
  unfold blockOut
  rw [requant_apply, accBlock_apply x2 _ (fun l q => x3 (ix2 l ⟨256 * b.val + q.val, by have := b.isLt; have := q.isLt; omega⟩))
    fun k l q => wBlock_apply b x3 k l q]
  simp only [cols_apply]
  rw [constOf_apply, acc_eq]

end Cert.KernelIdeal.Body

end
-- ==== Proof.Final.lean ====
/-
  What the kernel leaves in its result, element by element: the output's array put together from the blocks of the 48
  points, each block read through the windows back to the program's arguments.
-/
module

public import proofs.«01_k».proof.Proof.OutWord
public import proofs.«01_k».proof.Proof.Run
public import proofs.«01_k».proof.Proof.Frames
public import Idealize.ShloMosaic.Lib.Pipeline.ValueKit

@[expose] public section

set_option maxRecDepth 16384

noncomputable section

namespace Cert.KernelIdeal.Body

open Cert.KernelIdeal Cert.KernelIdeal.Gen Cert.Words
open Idealize.ShloMosaic Idealize.ShloMosaic.TcCoe
open Idealize.SL.Sem
open Idealize.ShloMosaic.Pipeline (Dat Cfg Window)

variable (m : (ℓ : Loc nD τ sig) → Buf (Elt Ideal) ℓ) (ρ : Dev nD → PrngReg) (c : Dev nD)

/-! ## The host's reshapes before the launch -/

/-- The activations' zero point at the shape the launch takes. -/
theorem V_v0 : V m c main_v0 = shapeCast S1 (m ((c : Thread nD τ).loc main_arg1)) shapeCasts_S_S1 := by
  simp only [V, V0, hostOps0, List.flatten_cons, List.flatten_nil, List.append_nil, StableHlo.after_cons, StableHlo.after_nil]
  repeat rw [StableHlo.reshape_result_ne' (h := by decide)]
  rw [StableHlo.reshape_result']
  repeat rw [StableHlo.reshape_result_ne' (h := by decide)]
  rfl

/-- The output's zero point at the shape the launch takes. -/
theorem V_v1 : V m c main_v1 = shapeCast S1 (m ((c : Thread nD τ).loc main_arg7)) shapeCasts_S_S1 := by
  simp only [V, V0, hostOps0, List.flatten_cons, List.flatten_nil, List.append_nil, StableHlo.after_cons, StableHlo.after_nil]
  repeat rw [StableHlo.reshape_result_ne' (h := by decide)]
  rw [StableHlo.reshape_result']
  repeat rw [StableHlo.reshape_result_ne' (h := by decide)]
  rfl

/-- The activations at the shape the launch takes. -/
theorem V_v2 : V m c main_v2 = shapeCast S24576x7168 (m ((c : Thread nD τ).loc main_arg0)) shapeCasts_S24x1024x7168_S24576x7168 := by
  simp only [V, V0, hostOps0, List.flatten_cons, List.flatten_nil, List.append_nil, StableHlo.after_cons, StableHlo.after_nil]
  repeat rw [StableHlo.reshape_result_ne' (h := by decide)]
  rw [StableHlo.reshape_result']
  repeat rw [StableHlo.reshape_result_ne' (h := by decide)]
  rfl

/-- The weights' zero points at the shape the launch takes. -/
theorem V_v3 : V m c main_v3 = shapeCast S1x2048 (m ((c : Thread nD τ).loc main_arg3)) shapeCasts_S2048_S1x2048 := by
  simp only [V, V0, hostOps0, List.flatten_cons, List.flatten_nil, List.append_nil, StableHlo.after_cons, StableHlo.after_nil]
  repeat rw [StableHlo.reshape_result_ne' (h := by decide)]
  rw [StableHlo.reshape_result']
  repeat rw [StableHlo.reshape_result_ne' (h := by decide)]
  rfl

/-- The bias at the shape the launch takes. -/
theorem V_v4 : V m c main_v4 = shapeCast S1x2048 (m ((c : Thread nD τ).loc main_arg4)) shapeCasts_S2048_S1x2048 := by
  simp only [V, V0, hostOps0, List.flatten_cons, List.flatten_nil, List.append_nil, StableHlo.after_cons, StableHlo.after_nil]
  repeat rw [StableHlo.reshape_result_ne' (h := by decide)]
  rw [StableHlo.reshape_result']
  repeat rw [StableHlo.reshape_result_ne' (h := by decide)]
  rfl

/-- The multipliers at the shape the launch takes. -/
theorem V_v5 : V m c main_v5 = shapeCast S1x2048 (m ((c : Thread nD τ).loc main_arg5)) shapeCasts_S2048_S1x2048 := by
  simp only [V, V0, hostOps0, List.flatten_cons, List.flatten_nil, List.append_nil, StableHlo.after_cons, StableHlo.after_nil]
  repeat rw [StableHlo.reshape_result_ne' (h := by decide)]
  rw [StableHlo.reshape_result']
  repeat rw [StableHlo.reshape_result_ne' (h := by decide)]
  rfl

/-- The shifts at the shape the launch takes. -/
theorem V_v6 : V m c main_v6 = shapeCast S1x2048 (m ((c : Thread nD τ).loc main_arg6)) shapeCasts_S2048_S1x2048 := by
  simp only [V, V0, hostOps0, List.flatten_cons, List.flatten_nil, List.append_nil, StableHlo.after_cons, StableHlo.after_nil]
  repeat rw [StableHlo.reshape_result_ne' (h := by decide)]
  rw [StableHlo.reshape_result']
  repeat rw [StableHlo.reshape_result_ne' (h := by decide)]
  rfl

/-! ## The windows' blocks, read back to the arguments -/

/-- Every window's index map at every point: the rows of the activations and of the result move, the rest stays. -/
theorem idx : ∀ t : Fin cfg0.N, win0_0.index t = ![0] ∧ win0_1.index t = ![0] ∧ win0_2.index t = ![t.val, 0] ∧ win0_3.index t = ![0, 0]
    ∧ win0_4.index t = ![0, 0] ∧ win0_5.index t = ![0, 0] ∧ win0_6.index t = ![0, 0] ∧ win0_7.index t = ![0, 0] ∧ win0_8.index t = ![t.val, 0] := by
  decide +kernel

/-- A one-element array made from a scalar holds the scalar. -/
theorem one_apply (x : IVec S_ 32) (j : S1.Idx) : shapeCast S1 x shapeCasts_S_S1 j = x ix0 :=
  shapeCast_apply _ _ _ _ (by
    have h1 := (S_.rowMajor ix0).isLt
    have h2 := (S1.rowMajor j).isLt
    have e1 : S_.numel = 1 := by decide
    have e2 : S1.numel = 1 := by decide
    omega)

/-- A row made from a vector holds the vector's elements. -/
theorem row_apply (x : IVec S2048 32) (n : Fin 2048) : shapeCast S1x2048 x shapeCasts_S2048_S1x2048 (ix2 0 n) = x (ix1 n) :=
  shapeCast_apply _ _ _ _ (by
    rw [Shape.rowMajor_val_one, Shape.rowMajor_val_two]
    show n.val = 0 * 2048 + n.val
    omega)

/-- Row `1024 b + s` of the activations laid out as a matrix is the array's row `s` of batch `b`. -/
theorem rows_apply (x : IVec S24x1024x7168 8) (b : Fin 24) (s : Fin 1024) (k : Fin 7168) (r : Fin 24576) (hr : r.val = 1024 * b.val + s.val) :
    shapeCast S24576x7168 x shapeCasts_S24x1024x7168_S24576x7168 (ix2 r k) = x (ix3 b s k) :=
  shapeCast_apply _ _ _ _ (by
    rw [Shape.rowMajor_val_two, Shape.rowMajor_val_three]
    show (b.val * 1024 + s.val) * 7168 + k.val = r.val * 7168 + k.val
    omega)

/-- Window 0 holds the activations' zero point. -/
theorem x_zp_at (t : Fin cfg0.N) : iblk m c 0 t (ix1 0) = (m ((c : Thread nD τ).loc main_arg1) : IVec S_ 32) ix0 := by
  show V m c main_v0 ((win0_0.blk t).view.emb (ix1 0)) = _
  rw [V_v0]
  exact one_apply _ _

/-- Window 1 holds the output's zero point. -/
theorem y_zp_at (t : Fin cfg0.N) : iblk m c 1 t (ix1 0) = (m ((c : Thread nD τ).loc main_arg7) : IVec S_ 32) ix0 := by
  show V m c main_v1 ((win0_1.blk t).view.emb (ix1 0)) = _
  rw [V_v1]
  exact one_apply _ _

/-- Window 3 holds the weights. -/
theorem w_at (t : Fin cfg0.N) (k : Fin 7168) (n : Fin 2048) : iblk m c 3 t (ix2 k n) = (m ((c : Thread nD τ).loc main_arg2) : IVec S7168x2048 8) (ix2 k n) := by
  blk_ext [iblk, V, idx t]

/-- Window 4 holds the weights' zero points. -/
theorem w_zp_at (t : Fin cfg0.N) (n : Fin 2048) : iblk m c 4 t (ix2 0 n) = (m ((c : Thread nD τ).loc main_arg3) : IVec S2048 32) (ix1 n) := by
  have hj : (win0_4.blk t).view.emb (ix2 0 n) = ix2 0 n := by blk_ext [idx t]
  show V m c main_v3 ((win0_4.blk t).view.emb (ix2 0 n)) = _
  rw [hj, V_v3]
  exact row_apply _ n

/-- Window 5 holds the bias. -/
theorem bias_at (t : Fin cfg0.N) (n : Fin 2048) : iblk m c 5 t (ix2 0 n) = (m ((c : Thread nD τ).loc main_arg4) : IVec S2048 32) (ix1 n) := by
  have hj : (win0_5.blk t).view.emb (ix2 0 n) = ix2 0 n := by blk_ext [idx t]
  show V m c main_v4 ((win0_5.blk t).view.emb (ix2 0 n)) = _
  rw [hj, V_v4]
  exact row_apply _ n

/-- Window 6 holds the multipliers. -/
theorem m0_at (t : Fin cfg0.N) (n : Fin 2048) : iblk m c 6 t (ix2 0 n) = (m ((c : Thread nD τ).loc main_arg5) : IVec S2048 32) (ix1 n) := by
  have hj : (win0_6.blk t).view.emb (ix2 0 n) = ix2 0 n := by blk_ext [idx t]
  show V m c main_v5 ((win0_6.blk t).view.emb (ix2 0 n)) = _
  rw [hj, V_v5]
  exact row_apply _ n

/-- Window 7 holds the shifts. -/
theorem shift_at (t : Fin cfg0.N) (n : Fin 2048) : iblk m c 7 t (ix2 0 n) = (m ((c : Thread nD τ).loc main_arg6) : IVec S2048 32) (ix1 n) := by
  have hj : (win0_7.blk t).view.emb (ix2 0 n) = ix2 0 n := by blk_ext [idx t]
  show V m c main_v6 ((win0_7.blk t).view.emb (ix2 0 n)) = _
  rw [hj, V_v6]
  exact row_apply _ n

/-- Window 2 at point `t` holds rows `512 t` to `512 t + 511` of the activations. -/
theorem x_at (t : Fin cfg0.N) (i : Fin 512) (k : Fin 7168) (b : Fin 24) (s : Fin 1024) (hr : 512 * t.val + i.val = 1024 * b.val + s.val) :
    iblk m c 2 t (ix2 i k) = (m ((c : Thread nD τ).loc main_arg0) : IVec S24x1024x7168 8) (ix3 b s k) := by
  have hj : (win0_2.blk t).view.emb (ix2 i k) = ix2 (⟨1024 * b.val + s.val, by omega⟩ : Fin 24576) k := by blk_ext [idx t]
  show V m c main_v2 ((win0_2.blk t).view.emb (ix2 i k)) = _
  rw [hj, V_v2]
  exact rows_apply _ b s k _ rfl

/-! ## The result -/

/-- The word the kernel leaves at an element of its result. -/
def outWord (b : Fin 24) (s : Fin 1024) (n : Fin 2048) : BitVec 8 :=
  kerWord (accWord (fun k => (m ((c : Thread nD τ).loc main_arg0) : IVec S24x1024x7168 8) (ix3 b s k))
      (fun k => (m ((c : Thread nD τ).loc main_arg2) : IVec S7168x2048 8) (ix2 k n))
      ((m ((c : Thread nD τ).loc main_arg1) : IVec S_ 32) ix0) ((m ((c : Thread nD τ).loc main_arg3) : IVec S2048 32) (ix1 n))
      ((m ((c : Thread nD τ).loc main_arg4) : IVec S2048 32) (ix1 n)) + 2147483648#32)
    ((m ((c : Thread nD τ).loc main_arg5) : IVec S2048 32) (ix1 n)) ((m ((c : Thread nD τ).loc main_arg6) : IVec S2048 32) (ix1 n))
    (IntOp.addi (IntOp.muli 2#32 ((m ((c : Thread nD τ).loc main_arg7) : IVec S_ 32) ix0)) 1#32)

/-- The block of a point, element by element. -/
theorem outAt_apply (t : Fin cfg0.N) (i : Fin 512) (n : Fin 2048) (b : Fin 24) (s : Fin 1024) (hr : 512 * t.val + i.val = 1024 * b.val + s.val) :
    outAt m c t (ix2 i n) = outWord m c b s n := by
  unfold outAt wbAt csAt
  refine (outBlock_apply _ _ _ _ _ _ _ _ i n).trans ?_
  unfold outWord yAdd
  rw [x_zp_at, y_zp_at, w_zp_at, bias_at, m0_at, shift_at]
  simp only [w_at, fun k => x_at m c t i k b s hr]
  rfl

/-- The result's array before the last reshape, by its rows. -/
def rowsOut : Vec Ideal S24576x2048 .i8 := fun j => outWord m c ⟨(j 0).val / 1024, by have := (j 0).isLt; simp at this; omega⟩ ⟨(j 0).val % 1024, by omega⟩ (j 1)

/-- The launch leaves the rows in its output's array. -/
theorem arr8 : (dats m 0 c).arrAt 8 cfg0.N = rowsOut m c := by
  refine (dats m 0 c).arrAt_eq_of_covers 8 _ (by decide +kernel) fun t hf y => ?_
  blk_simp
  rw [after8]
  have ht : t.val < 48 := Nat.lt_of_lt_of_eq t.isLt N_0
  obtain ⟨i, n, rfl⟩ : ∃ (i : Fin 512) (n : Fin 2048), y = ix2 i n := ⟨y 0, y 1, eq_ix2 y⟩
  have hj : (win0_8.blk t).view.emb (ix2 i n) = ix2 (⟨512 * t.val + i.val, by omega⟩ : Fin 24576) n := by blk_ext [idx t]
  rw [hj]
  refine outAt_apply m c t i n _ _ ?_
  show 512 * t.val + i.val = 1024 * ((512 * t.val + i.val) / 1024) + (512 * t.val + i.val) % 1024
  omega

/-- The result after the last reshape. -/
theorem tail_v8 (b : Fin 24) (s : Fin 1024) (n : Fin 2048) :
    (Pipeline.afterTail₀ cfgs (dats m) 0 (V0 m) [hostOps1] c main_v8 : IVec S24x1024x2048 8) (ix3 b s n) = outWord m c b s n := by
  have h7 : (dats m 0 c).arrAt 8 cfg0.N = rowsOut m c := arr8 m c
  have e : (Pipeline.afterTail₀ cfgs (dats m) 0 (V0 m) [hostOps1] c main_v8 : IVec S24x1024x2048 8)
      = shapeCast S24x1024x2048 (rowsOut m c) shapeCasts_S24576x2048_S24x1024x2048 := by
    unfold Pipeline.afterTail₀
    simp only [hostOps1, List.flatten_cons, List.flatten_nil, List.append_nil, StableHlo.after_cons, StableHlo.after_nil]
    rw [StableHlo.reshape_result', ← h7]
    have hw := Pipeline.withArrays_arr spec0 (by decide) c (V0 m c) (fun w => (dats m 0 c).arrAt w cfg0.N) 8
    exact congrArg (fun x => shapeCast S24x1024x2048 x shapeCasts_S24576x2048_S24x1024x2048) hw
  rw [e, shapeCast_apply _ _ (ix3 b s n) (ix2 (⟨1024 * b.val + s.val, by omega⟩ : Fin 24576) n) (by
    rw [Shape.rowMajor_val_two, Shape.rowMajor_val_three]
    show (1024 * b.val + s.val) * 2048 + n.val = (b.val * 1024 + s.val) * 2048 + n.val
    omega)]
  unfold rowsOut
  congr 1
  · exact Fin.ext (show (1024 * b.val + s.val) / 1024 = b.val by omega)
  · exact Fin.ext (show (1024 * b.val + s.val) % 1024 = s.val by omega)

/-- The kernel's run with its value: the result holds `outWord` at every element and the arguments are unchanged. -/
theorem run : θ_run defs (onTc (τ := τ) (main (F := Ideal))) ⟨m, fun _ => 0, ρ⟩ (fun r => (∀ c : Dev nD, ∀ b s n,
      (r.2.mem ((c.tc : Thread nD τ).loc main_v8) : IVec S24x1024x2048 8) (ix3 b s n) = outWord m c b s n)
      ∧ ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)) :=
  θ_run_and ((θ_run defs _ _).mono (fun r h c b s n => by
      have h8 := (h.1 c).2 main_v8 (Pipeline.mem_restRefs_of main_v8 (by decide) (by decide))
      exact (congrFun h8 (ix3 b s n)).trans (tail_v8 m c b s n)) (run_kernel m ρ))
    (frame m ρ)

end Cert.KernelIdeal.Body

end
-- ==== Proof.Pre.lean ====
/-
  What the precondition says of the arguments, word by word: the multipliers are not negative, the shifts lie between 1 and
  31, the output's zero point is below 2^28 in size, and where a shift is 1 the zero points are codes and the bias is at most
  2^30 in size.
-/
module

public import proofs.«01_k».proof.Pre_no_overflow
public import proofs.«01_k».proof.Proof.Words
public import Idealize.ShloMosaic.Lib.Exec
public import Idealize.ShloMosaic.Lib.Tactic
public import Idealize.ShloMosaic.Lib.Pipeline.ValueKit

@[expose] public section

set_option maxRecDepth 16384

noncomputable section

namespace Cert.Pre_no_overflow.Gen

open Idealize.ShloMosaic Cert.Pre_no_overflow

/-- The side conditions of the precondition's operations. -/
instance facts : Cert.Pre_no_overflow.Facts where
  bcast_S_S2048 := by decide
  reducesTo_S2048_S_d0 := by decide
  h_S_ := by decide

/-- A conjunction of bits that is one has both bits one. -/
theorem andi_one {a b : BitVec 1} (h : IntOp.andi a b = 1#1) : a = 1#1 ∧ b = 1#1 := by
  revert h; revert a b; decide

/-- A disjunction of bits that is one has one of them one. -/
theorem ori_one {a b : BitVec 1} (h : IntOp.ori a b = 1#1) : a = 1#1 ∨ b = 1#1 := by
  revert h; revert a b; decide

/-- A fold of conjunctions that is one has every bit one. -/
theorem fold_one {ι : Type*} (S : Finset ι) (f : ι → BitVec 1) (h : S.fold IntOp.andi 1#1 f = 1#1) : ∀ i ∈ S, f i = 1#1 := by
  induction S using Finset.cons_induction with
  | empty => intro i hi; exact absurd hi (Finset.notMem_empty i)
  | cons a S ha ih =>
    rw [Finset.fold_cons] at h
    obtain ⟨h1, h2⟩ := andi_one h
    intro i hi
    rcases Finset.mem_cons.mp hi with rfl | hi
    · exact h1
    · exact ih h2 i hi

/-- A signed comparison "at least" that is one, as an inequality of integers. -/
theorem sge_one {x y : BitVec 32} (h : IntOp.cmpi .sge x y = 1#1) : y.toInt ≤ x.toInt := by
  simp only [IntOp.cmpi, BitVec.sle_eq_decide] at h
  by_contra hn
  rw [decide_eq_false hn] at h
  exact absurd h (by decide)

/-- A signed comparison "at most" that is one, as an inequality of integers. -/
theorem sle_one {x y : BitVec 32} (h : IntOp.cmpi .sle x y = 1#1) : x.toInt ≤ y.toInt := by
  simp only [IntOp.cmpi, BitVec.sle_eq_decide] at h
  by_contra hn
  rw [decide_eq_false hn] at h
  exact absurd h (by decide)

/-- The conjunction over all columns is one only if every column's bit is. -/
theorem all_one (v : IVec S2048 1) (h : Host.reduce IntOp.andi v (constantI S_ 1 1#1) Facts.reducesTo_S2048_S_d0 Facts.h_S_ ix0 = 1#1) (n : Fin 2048) :
    v (ix1 n) = 1#1 := by
  rw [Host.reduce_eq_fold] at h
  have e := Shape.ReducesTo.fold_fiber_r1_a0 Facts.reducesTo_S2048_S_d0 ix0 IntOp.andi 1#1 v
  exact fold_one Finset.univ (fun k => v (ix1 k)) (e.symm.trans h) n (Finset.mem_univ n)

/-- The precondition, column by column, as inequalities of integers. -/
theorem pre_word (a0 : IVec S24x1024x7168 8) (a1 : IVec S_ 32) (a2 : IVec S7168x2048 8) (a3 a4 a5 a6 : IVec S2048 32) (a7 : IVec S_ 32)
    (h : fn (F := Ideal) a0 a1 a2 a3 a4 a5 a6 a7 = fun _ => 1#1) (n : Fin 2048) :
    0 ≤ (a5 (ix1 n)).toInt ∧ 1 ≤ (a6 (ix1 n)).toInt ∧ (a6 (ix1 n)).toInt ≤ 31 ∧ -2 ^ 28 ≤ (a7 ix0).toInt ∧ (a7 ix0).toInt ≤ 2 ^ 28
    ∧ (2 ≤ (a6 (ix1 n)).toInt ∨ ((0 ≤ (a1 ix0).toInt ∧ (a1 ix0).toInt ≤ 255) ∧ (0 ≤ (a3 (ix1 n)).toInt ∧ (a3 (ix1 n)).toInt ≤ 255)
        ∧ -1073741824 ≤ (a4 (ix1 n)).toInt ∧ (a4 (ix1 n)).toInt ≤ 1073741824)) := by
  have h0 := congrFun h ix0
  unfold fn fn_part1 at h0
  obtain ⟨h1, y2⟩ := andi_one h0
  obtain ⟨h2, y1⟩ := andi_one h1
  have hn := all_one _ h2 n
  obtain ⟨hm, h3⟩ := andi_one hn
  obtain ⟨h4, h5⟩ := andi_one h3
  obtain ⟨s1, s2⟩ := andi_one h4
  refine ⟨sge_one hm, sge_one s1, sle_one s2, sge_one y1, sle_one y2, ?_⟩
  rcases ori_one h5 with h6 | h6
  · exact .inl (sge_one h6)
  · obtain ⟨h7, h8⟩ := andi_one h6
    obtain ⟨h9, w2⟩ := andi_one h7
    obtain ⟨h10, w1⟩ := andi_one h9
    obtain ⟨x1, x2⟩ := andi_one h10
    obtain ⟨b1, b2⟩ := andi_one h8
    have ei : ∀ j : S_.Idx, j = ix0 := fun j => funext fun a => a.elim0
    have x1' : IntOp.cmpi .sge (a1 ix0) 0#32 = 1#1 := Eq.subst (motive := fun j => IntOp.cmpi .sge (a1 j) 0#32 = 1#1) (ei _) x1
    have x2' : IntOp.cmpi .sle (a1 ix0) 255#32 = 1#1 := Eq.subst (motive := fun j => IntOp.cmpi .sle (a1 j) 255#32 = 1#1) (ei _) x2
    exact .inr ⟨⟨sge_one x1', sle_one x2'⟩, ⟨sge_one w1, sle_one w2⟩, sge_one b1, sle_one b2⟩

end Cert.Pre_no_overflow.Gen

end
-- ==== Proof.Ref.lean ====
/-
  The reference read at an index: its result is the word function `refWord` of the accumulator, the multiplier, the
  shift and the offset at that index, and the accumulator is `accWord` of a row of codes and a column of weights.
-/
module

public import proofs.«01_k».proof.Proof.Gen.ReferenceIdeal.Run
public import Idealize.ShloMosaic.Lib.Pointwise
public import proofs.«01_k».proof.Proof.Words

@[expose] public section

set_option maxRecDepth 16384
noncomputable section

namespace Cert.ReferenceIdeal.Value
open Cert.Words Cert.ReferenceIdeal Cert.ReferenceIdeal.Gen Idealize.ShloMosaic Idealize.ShloMosaic.TcCoe Idealize.SL.Sem Idealize.ShloMosaic.StableHlo

variable (V : Valuation τ sig (Elt Ideal)) (b : Fin 24) (s : Fin 1024) (n : Fin 2048)

local notation "A3" => IVec S24x1024x2048 32

/-- A vector negated where its mask is set, at an index. -/
theorem negIf_at {S : Shape} (c : IVec S 1) (q : IVec S 32) (i : S.Idx) : select c (negi q) q i = negIf (c i) (q i) := by
  pointwise [negIf]
/-- A vector under the identity, at an index. -/
theorem id_at {S : Shape} {w : ℕ} (v : IVec S w) (i : S.Idx) : (id v) i = v i := rfl

/-- The bit of a negative accumulator, at an index. -/
theorem v31_at : (res_main_v31 V : IVec S24x1024x2048 1) (ix3 b s n) = IntOp.cmpi .slt ((res_main_v29 V : A3) (ix3 b s n)) 0#32 := by
  unfold res_main_v31
  generalize res_main_v29 V = av29
  first | rfl | (pointwise []; done) | (pointwise []; rfl)

/-- The accumulator's magnitude, at an index. -/
theorem v33_at : (res_main_v33 V : A3) (ix3 b s n) = IntOp.absi ((res_main_v29 V : A3) (ix3 b s n)) := by
  unfold res_main_v33
  generalize res_main_v29 V = av29
  refine (id_at _ _).trans ?_
  first | rfl | (pointwise []; done) | (pointwise []; rfl)

/-- The magnitude's high half, at an index. -/
theorem v36_at : (res_main_v36 V : A3) (ix3 b s n) = IntOp.shrui .host ((res_main_v33 V : A3) (ix3 b s n)) 16#32 := by
  unfold res_main_v36
  generalize res_main_v33 V = av33
  first | rfl | (pointwise []; done) | (pointwise []; rfl)

/-- The magnitude's low half, at an index. -/
theorem v38_at : (res_main_v38 V : A3) (ix3 b s n) = IntOp.andi ((res_main_v33 V : A3) (ix3 b s n)) 65535#32 := by
  unfold res_main_v38
  generalize res_main_v33 V = av33
  first | rfl | (pointwise []; done) | (pointwise []; rfl)

/-- The multiplier, at an index. -/
theorem v34_at : (res_main_v34 V : IVec S2048 32) (ix1 n) = ((V (Proc.devRef .tc main_arg5) : IVec S2048 32) (ix1 n)) := by
  unfold res_main_v34
  rfl

/-- The multiplier's high half, at an index. -/
theorem v40_at : (res_main_v40 V : IVec S2048 32) (ix1 n) = IntOp.shrui .host ((V (Proc.devRef .tc main_arg5) : IVec S2048 32) (ix1 n)) 16#32 := by
  unfold res_main_v40 res_main_v34
  rfl
/-- The multiplier's low half, at an index. -/
theorem v42_at : (res_main_v42 V : IVec S2048 32) (ix1 n) = IntOp.andi ((V (Proc.devRef .tc main_arg5) : IVec S2048 32) (ix1 n)) 65535#32 := by
  unfold res_main_v42 res_main_v34
  rfl
/-- The mask of the bits divided away, at an index. -/
theorem v83_at : (res_main_v83 V : IVec S2048 32) (ix1 n) = IntOp.subi (IntOp.shli .host 1#32 ((V (Proc.devRef .tc main_arg6) : IVec S2048 32) (ix1 n))) 1#32 := by
  unfold res_main_v83
  rfl

/-- The product of the low halves, at an index. -/
theorem v45_at : (res_main_v45 V : A3) (ix3 b s n) = IntOp.muli ((res_main_v38 V : A3) (ix3 b s n)) ((res_main_v42 V : IVec S2048 32) (ix1 n)) := by
  unfold res_main_v45
  generalize res_main_v38 V = av38
  generalize res_main_v42 V = av42
  first | rfl | (pointwise []; done) | (pointwise []; rfl)

/-- The sum of the mixed products, at an index. -/
theorem v52_at : (res_main_v52 V : A3) (ix3 b s n) = IntOp.addi (IntOp.muli ((res_main_v36 V : A3) (ix3 b s n)) ((res_main_v42 V : IVec S2048 32) (ix1 n))) (IntOp.muli ((res_main_v38 V : A3) (ix3 b s n)) ((res_main_v40 V : IVec S2048 32) (ix1 n))) := by
  unfold res_main_v52
  generalize res_main_v36 V = av36
  generalize res_main_v38 V = av38
  generalize res_main_v42 V = av42
  generalize res_main_v40 V = av40
  first | rfl | (pointwise []; done) | (pointwise []; rfl)

/-- The product's low word, at an index. -/
theorem v58_at : (res_main_v58 V : A3) (ix3 b s n) = IntOp.addi ((res_main_v45 V : A3) (ix3 b s n)) (IntOp.shli .host ((res_main_v52 V : A3) (ix3 b s n)) 16#32) := by
  unfold res_main_v58
  generalize res_main_v45 V = av45
  generalize res_main_v52 V = av52
  first | rfl | (pointwise []; done) | (pointwise []; rfl)

/-- The product's low word with the rounding constant, at an index. -/
theorem v68_at : (res_main_v68 V : A3) (ix3 b s n) = IntOp.addi ((res_main_v58 V : A3) (ix3 b s n)) (IntOp.subi 1073741824#32 (((res_main_v31 V : IVec S24x1024x2048 1) (ix3 b s n)).setWidth 32)) := by
  unfold res_main_v68
  generalize res_main_v58 V = av58
  generalize res_main_v31 V = av31
  first | rfl | (pointwise []; done) | (pointwise []; rfl)

/-- The high product, shifted, at an index. -/
theorem v77_at : (res_main_v77 V : A3) (ix3 b s n) = IntOp.ori (IntOp.shli .host (IntOp.addi (IntOp.addi (IntOp.addi (IntOp.muli ((res_main_v36 V : A3) (ix3 b s n)) ((res_main_v40 V : IVec S2048 32) (ix1 n))) (IntOp.shrui .host ((res_main_v52 V : A3) (ix3 b s n)) 16#32))
      ((IntOp.cmpi .ult ((res_main_v58 V : A3) (ix3 b s n)) ((res_main_v45 V : A3) (ix3 b s n))).setWidth 32)) ((IntOp.cmpi .ult ((res_main_v68 V : A3) (ix3 b s n)) ((res_main_v58 V : A3) (ix3 b s n))).setWidth 32)) 1#32) (IntOp.shrui .host ((res_main_v68 V : A3) (ix3 b s n)) 31#32) := by
  unfold res_main_v77
  generalize res_main_v36 V = av36
  generalize res_main_v40 V = av40
  generalize res_main_v52 V = av52
  generalize res_main_v58 V = av58
  generalize res_main_v45 V = av45
  generalize res_main_v68 V = av68
  refine (id_at _ _).trans ?_
  first | rfl | (pointwise []; done) | (pointwise []; rfl)

/-- The high product with its sign, at an index. -/
theorem v79_at : (res_main_v79 V : A3) (ix3 b s n) = negIf ((res_main_v31 V : IVec S24x1024x2048 1) (ix3 b s n)) ((res_main_v77 V : A3) (ix3 b s n)) := by
  unfold res_main_v79
  exact negIf_at _ _ _

/-- The high product at an index: the reference's word function. -/
theorem high_at : (res_main_v79 V : A3) (ix3 b s n) = highMul ((res_main_v29 V : A3) (ix3 b s n)) ((V (Proc.devRef .tc main_arg5) : IVec S2048 32) (ix1 n)) := by
  rw [v79_at, v77_at, v68_at, v58_at, v52_at, v45_at, v42_at, v40_at, v38_at, v36_at, v33_at, v31_at]
  unfold highMul
  rfl

/-- A fold by wrapping addition from zero is a sum of words. -/
theorem fold_addi {ι : Type*} (S : Finset ι) (f : ι → BitVec 32) : S.fold IntOp.addi 0#32 f = ∑ i ∈ S, f i := by
  induction S using Finset.cons_induction with
  | empty => rfl
  | cons a S ha ih => rw [Finset.fold_cons, Finset.sum_cons, ih]; rfl

/-- The wrapping sum of a matrix of words along its rows' axis. -/
theorem sum_rows (w : IVec S7168x2048 32) :
    Host.reduce IntOp.addi w (constantI S_ 32 0#32) reducesTo_S7168x2048_S2048_d0 h_S_ (ix1 n) = ∑ k : Fin 7168, w (ix2 k n) := by
  rw [← fold_addi, Host.reduce_eq_fold]
  exact Shape.ReducesTo.fold_fiber_r2_a0 reducesTo_S7168x2048_S2048_d0 (ix1 n) IntOp.addi 0#32 w

/-- The wrapping sum of an array of words along its last axis. -/
theorem sum_last (x : IVec S24x1024x7168 32) :
    Host.reduce IntOp.addi x (constantI S_ 32 0#32) reducesTo_S24x1024x7168_S24x1024_d2 h_S_ (ix2 b s) = ∑ k : Fin 7168, x (ix3 b s k) := by
  rw [← fold_addi, Host.reduce_eq_fold]
  exact Shape.ReducesTo.fold_fiber_r3_a2 reducesTo_S24x1024x7168_S24x1024_d2 (ix2 b s) IntOp.addi 0#32 x

/-- The reference's accumulator at an index. -/
theorem acc_at : (res_main_v29 V : A3) (ix3 b s n)
    = accWord (fun k => (V (Proc.devRef .tc main_arg0) : IVec S24x1024x7168 8) (ix3 b s k)) (fun k => (V (Proc.devRef .tc main_arg2) : IVec S7168x2048 8) (ix2 k n))
        ((V (Proc.devRef .tc main_arg1) : IVec S_ 32) ix0) ((V (Proc.devRef .tc main_arg3) : IVec S2048 32) (ix1 n)) ((V (Proc.devRef .tc main_arg4) : IVec S2048 32) (ix1 n)) := by
  unfold res_main_v29 res_main_v0 res_main_v1
  obtain ⟨x, hx⟩ : ∃ x : IVec S24x1024x7168 8, x = V (Proc.devRef .tc main_arg0) := ⟨_, rfl⟩
  obtain ⟨w, hw⟩ : ∃ x : IVec S7168x2048 8, x = V (Proc.devRef .tc main_arg2) := ⟨_, rfl⟩
  obtain ⟨xz, hxz⟩ : ∃ x : IVec S_ 32, x = V (Proc.devRef .tc main_arg1) := ⟨_, rfl⟩
  obtain ⟨wz, hwz⟩ : ∃ x : IVec S2048 32, x = V (Proc.devRef .tc main_arg3) := ⟨_, rfl⟩
  obtain ⟨bias, hbias⟩ : ∃ x : IVec S2048 32, x = V (Proc.devRef .tc main_arg4) := ⟨_, rfl⟩
  rw [← hx, ← hw, ← hxz, ← hwz, ← hbias]
  generalize hs : Host.reduce IntOp.addi (extui 32 w natLt_8_32) (constantI S_ 32 0#32) reducesTo_S7168x2048_S2048_d0 h_S_ = ws
  generalize ht : Host.reduce IntOp.addi (extui 32 x natLt_8_32) (constantI S_ 32 0#32) reducesTo_S24x1024x7168_S24x1024_d2 h_S_ = xs
  pointwise []
  rw [fold_addi, ← hs, ← ht, sum_rows, sum_last]
  unfold accWord
  rfl

/-- The reference's result at an index. -/
theorem out_at : (val3 V (Proc.devRef .tc main_v104) : IVec S24x1024x2048 8) (ix3 b s n)
    = refWord ((res_main_v29 V : A3) (ix3 b s n)) ((V (Proc.devRef .tc main_arg5) : IVec S2048 32) (ix1 n)) ((V (Proc.devRef .tc main_arg6) : IVec S2048 32) (ix1 n)) ((V (Proc.devRef .tc main_arg7) : IVec S_ 32) ix0) := by
  rw [val3_main_v104]
  unfold refWord
  rw [← high_at]
  obtain ⟨h, hh⟩ : ∃ x : A3, x = res_main_v79 V := ⟨_, rfl⟩
  obtain ⟨y, hy⟩ : ∃ x : IVec S_ 32, x = V (Proc.devRef .tc main_arg7) := ⟨_, rfl⟩
  obtain ⟨e, he⟩ : ∃ x : IVec S2048 32, x = V (Proc.devRef .tc main_arg6) := ⟨_, rfl⟩
  obtain ⟨g, hg⟩ : ∃ x : IVec S2048 32, x = res_main_v83 V := ⟨_, rfl⟩
  have hg' := v83_at V n
  rw [← hg, ← he] at hg'
  rw [← hh, ← hy, ← he, ← hg]
  pointwise [roundingDivide]
  rw [hg', id_at, id_at]
  rfl

end Cert.ReferenceIdeal.Value
-- ==== Proof.Requant.lean ====
/-
  The kernel's requantisation of a biased accumulator and the reference's of the accumulator are the same word.
  Both high products are `⌊(a · m + 2^30) / 2^31⌋`, and both divisions round half away from zero.
-/
module

public import proofs.«01_k».proof.Proof.Words
public import Mathlib.Tactic.Ring
public import Mathlib.Tactic.Linarith

@[expose] public section

namespace Cert.Words
open Idealize.ShloMosaic

/-! ## The high product -/

/-- The rounded high product, on integers. -/
def mulShift (a m : ℤ) : ℤ := (a * m + 2 ^ 30) / 2 ^ 31

/-- The kernel's three partial sums on natural numbers, none of which leaves a 32-bit word. -/
theorem ker_nat (u m : ℕ) (hu : u < 2 ^ 32) (hm : m < 2 ^ 31) :
    let low := (u % 65536 * (m % 32768)) / 32768 + u % 65536 * (m / 32768) + 32768
    let mid := u / 65536 * (m % 32768) + low / 2
    low < 2 ^ 32 ∧ mid < 2 ^ 32 ∧ u / 65536 * (m / 32768) + mid / 32768 = (u * m + 2 ^ 30) / 2 ^ 31 := by
  have h1 : u * m = u / 65536 * (m / 32768) * 2 ^ 31 + u / 65536 * (m % 32768) * 65536 + u % 65536 * (m / 32768) * 32768 + u % 65536 * (m % 32768) := by
    conv_lhs => rw [← Nat.div_add_mod u 65536, ← Nat.div_add_mod m 32768]
    ring
  have b1 : u % 65536 * (m % 32768) ≤ 65535 * 32767 := Nat.mul_le_mul (by omega) (by omega)
  have b2 : u % 65536 * (m / 32768) ≤ 65535 * 65535 := Nat.mul_le_mul (by omega) (by omega)
  have b3 : u / 65536 * (m % 32768) ≤ 65535 * 32767 := Nat.mul_le_mul (by omega) (by omega)
  dsimp only
  generalize u % 65536 * (m % 32768) = p at *
  generalize u % 65536 * (m / 32768) = q at *
  generalize u / 65536 * (m % 32768) = r at *
  generalize u / 65536 * (m / 32768) = s at *
  rw [h1]
  refine ⟨by omega, by omega, by omega⟩

theorem toNat_shrui (c : ArithUnit) (x : BitVec 32) (k : ℕ) (hk : k < 32) : (IntOp.shrui c x (BitVec.ofNat 32 k)).toNat = x.toNat / 2 ^ k := by
  unfold IntOp.shrui
  have : (BitVec.ofNat 32 k).toNat = k := by rw [BitVec.toNat_ofNat]; omega
  rw [this, if_pos hk, BitVec.ushiftRight_eq', BitVec.toNat_ushiftRight, this, Nat.shiftRight_eq_div_pow]

theorem toNat_shli (c : ArithUnit) (x : BitVec 32) (k : ℕ) (hk : k < 32) : (IntOp.shli c x (BitVec.ofNat 32 k)).toNat = x.toNat * 2 ^ k % 2 ^ 32 := by
  unfold IntOp.shli
  have : (BitVec.ofNat 32 k).toNat = k := by rw [BitVec.toNat_ofNat]; omega
  rw [this, if_pos hk, BitVec.shiftLeft_eq', BitVec.toNat_shiftLeft, this, Nat.shiftLeft_eq]

theorem toNat_andi (x : BitVec 32) (k : ℕ) (hk : k < 32) (c : BitVec 32) (hc : c.toNat = 2 ^ k - 1) : (IntOp.andi x c).toNat = x.toNat % 2 ^ k := by
  unfold IntOp.andi
  rw [BitVec.toNat_and, hc, Nat.and_two_pow_sub_one_eq_mod]

theorem toNat_addi (x y : BitVec 32) : (IntOp.addi x y).toNat = (x.toNat + y.toNat) % 2 ^ 32 := BitVec.toNat_add x y
theorem toNat_muli (x y : BitVec 32) : (IntOp.muli x y).toNat = x.toNat * y.toNat % 2 ^ 32 := BitVec.toNat_mul x y

/-- A word's value is the given integer, when that is in range and agrees with it modulo 2^32. -/
theorem toInt_of_mod (x : BitVec 32) (z : ℤ) (h : ((x.toNat : ℤ) - z) % 2 ^ 32 = 0) (h1 : -2 ^ 31 ≤ z) (h2 : z < 2 ^ 31) : x.toInt = z := by
  rw [BitVec.toInt_eq_toNat_cond]
  have := x.isLt
  split <;> omega

/-- A word's unsigned and signed values agree modulo 2^32. -/
theorem toNat_mod (x : BitVec 32) : ((x.toNat : ℤ) - x.toInt) % 2 ^ 32 = 0 := by
  rw [BitVec.toInt_eq_toNat_cond]
  have := x.isLt
  split <;> omega

/-- The rounded high product of two words with a nonnegative multiplier is in a word's range. -/
theorem mulShift_bounds (a m : BitVec 32) (hm : 0 ≤ m.toInt) : -2 ^ 31 + 1 ≤ mulShift a.toInt m.toInt ∧ mulShift a.toInt m.toInt < 2 ^ 31 := by
  have a1 := BitVec.le_toInt a
  have a2 := BitVec.toInt_lt (x := a)
  have m2 := BitVec.toInt_lt (x := m)
  simp only [Nat.add_one_sub_one] at a1 a2 m2
  unfold mulShift
  generalize a.toInt = A at *
  generalize m.toInt = M at *
  have h1 : A * M ≤ 2 ^ 31 * (2 ^ 31 - 1) := by nlinarith
  have h2 : -(2 ^ 31 * (2 ^ 31 - 1)) ≤ A * M := by nlinarith
  have h3 : A * M ≤ (2 ^ 31 - 1) * (2 ^ 31 - 1) := by nlinarith
  omega

/-- The kernel's high product. -/
theorem kerHigh_toInt (a m : BitVec 32) (hm : 0 ≤ m.toInt) : (kerHigh (a + 2147483648#32) m).toInt = mulShift a.toInt m.toInt := by
  obtain ⟨b1, b2⟩ := mulShift_bounds a m hm
  have hM : m.toNat < 2 ^ 31 := by
    rw [BitVec.toInt_eq_toNat_cond] at hm; have := m.isLt; split at hm <;> omega
  have hMi : m.toInt = m.toNat := by rw [BitVec.toInt_eq_toNat_cond]; split <;> omega
  have hU : ((a + 2147483648#32).toNat : ℤ) = a.toInt + 2 ^ 31 := by
    rw [BitVec.toNat_add, BitVec.toInt_eq_toNat_cond]
    have := a.isLt
    have e : (2147483648#32 : BitVec 32).toNat = 2147483648 := rfl
    rw [e]
    split <;> omega
  generalize hu : a + 2147483648#32 = u at *
  obtain ⟨l1, l2, l3⟩ := ker_nat u.toNat m.toNat u.isLt hM
  have key : (IntOp.addi (IntOp.muli (IntOp.shrui .vector u 16#32) (IntOp.shrui .vector m 15#32)) (IntOp.shrui .vector (IntOp.addi (IntOp.muli (IntOp.shrui .vector u 16#32) (IntOp.andi m 32767#32)) (IntOp.shrui .vector (IntOp.addi (IntOp.addi (IntOp.shrui .vector (IntOp.muli (IntOp.andi u 65535#32) (IntOp.andi m 32767#32)) 15#32) (IntOp.muli (IntOp.andi u 65535#32) (IntOp.shrui .vector m 15#32))) 32768#32) 1#32)) 15#32)).toNat
      = (u.toNat * m.toNat + 2 ^ 30) / 2 ^ 31 % 2 ^ 32 := by
    have c1 : u.toNat % 65536 * (m.toNat % 32768) ≤ 65535 * 32767 := Nat.mul_le_mul (by omega) (by omega)
    have c2 : u.toNat % 65536 * (m.toNat / 32768) ≤ 65535 * 65535 := Nat.mul_le_mul (by omega) (by omega)
    have c3 : u.toNat / 65536 * (m.toNat % 32768) ≤ 65535 * 32767 := Nat.mul_le_mul (by have := u.isLt; omega) (by omega)
    have c4 : u.toNat / 65536 * (m.toNat / 32768) ≤ 65535 * 65535 := Nat.mul_le_mul (by have := u.isLt; omega) (by omega)
    rw [← l3]
    simp only [toNat_addi, toNat_muli, toNat_shrui _ _ 15 (by decide), toNat_shrui _ _ 16 (by decide), toNat_shrui _ _ 1 (by decide),
      toNat_andi _ 15 (by decide) 32767#32 rfl, toNat_andi _ 16 (by decide) 65535#32 rfl, show (32768#32 : BitVec 32).toNat = 32768 from rfl,
      show 2 ^ 16 = 65536 from rfl, show 2 ^ 15 = 32768 from rfl, show 2 ^ 1 = 2 from rfl]
    generalize u.toNat % 65536 * (m.toNat % 32768) = p at *
    generalize u.toNat % 65536 * (m.toNat / 32768) = q at *
    generalize u.toNat / 65536 * (m.toNat % 32768) = r at *
    generalize u.toNat / 65536 * (m.toNat / 32768) = s at *
    omega
  apply toInt_of_mod _ _ _ (by omega) b2
  show (((_ - m : BitVec 32).toNat : ℤ) - _) % 2 ^ 32 = 0
  rw [BitVec.toNat_sub, key]
  unfold mulShift at *
  rw [hMi] at *
  have hz : (u.toNat : ℤ) * m.toNat = a.toInt * m.toNat + 2 ^ 31 * m.toNat := by rw [hU]; ring
  have hn : ((u.toNat * m.toNat : ℕ) : ℤ) = (u.toNat : ℤ) * m.toNat := by push_cast; ring
  generalize u.toNat * m.toNat = P at *
  generalize a.toInt * (m.toNat : ℤ) = Q at *
  omega

/-- Adding into a low word with the carry kept in the high word. -/
theorem carry_nat (high low t : ℕ) (hl : low < 2 ^ 32) (ht : t < 2 ^ 32) :
    (high + if (low + t) % 2 ^ 32 < low then 1 else 0) * 2 ^ 32 + (low + t) % 2 ^ 32 = high * 2 ^ 32 + low + t := by
  split <;> omega

/-- The reference's long multiplication on natural numbers: the carries make the two words of `m · M + t`, and the
    result is that number shifted right by 31. -/
theorem ref_nat (m M t : ℕ) (hm : m ≤ 2 ^ 31) (hM : M < 2 ^ 31) (ht : t ≤ 2 ^ 30) :
    let lo := m % 65536 * (M % 65536)
    let mid := m / 65536 * (M % 65536) + m % 65536 * (M / 65536)
    let low := (lo + mid * 65536 % 2 ^ 32) % 2 ^ 32
    let high := m / 65536 * (M / 65536) + mid / 65536 + if low < lo then 1 else 0
    let low2 := (low + t) % 2 ^ 32
    let high2 := high + if low2 < low then 1 else 0
    lo < 2 ^ 32 ∧ mid < 2 ^ 32 ∧ high2 < 2 ^ 31 ∧ 2 * high2 + low2 / 2 ^ 31 = (m * M + t) / 2 ^ 31 := by
  have h1 : m * M = m / 65536 * (M / 65536) * 2 ^ 32 + (m / 65536 * (M % 65536) + m % 65536 * (M / 65536)) * 65536 + m % 65536 * (M % 65536) := by
    conv_lhs => rw [← Nat.div_add_mod m 65536, ← Nat.div_add_mod M 65536]
    ring
  have b1 : m % 65536 * (M % 65536) ≤ 65535 * 65535 := Nat.mul_le_mul (by omega) (by omega)
  have b2 : m / 65536 * (M % 65536) ≤ 32768 * 65535 := Nat.mul_le_mul (by omega) (by omega)
  have b3 : m % 65536 * (M / 65536) ≤ 65535 * 32767 := Nat.mul_le_mul (by omega) (by omega)
  have b4 : m / 65536 * (M / 65536) ≤ 32768 * 32767 := Nat.mul_le_mul (by omega) (by omega)
  dsimp only
  rw [h1]
  generalize m % 65536 * (M % 65536) = p at *
  generalize m / 65536 * (M % 65536) = q at *
  generalize m % 65536 * (M / 65536) = r at *
  generalize m / 65536 * (M / 65536) = s at *
  clear h1
  have hmid : q + r < 2 ^ 32 := by omega
  have hsum : s * 2 ^ 32 + (q + r) * 65536 + p + t ≤ 4611686018427387904 + 281474976710656 := by omega
  clear b2 b3 b4
  generalize q + r = mid at *
  have hp : p < 2 ^ 32 := by omega
  have e0 : (s + mid / 65536) * 2 ^ 32 + mid * 65536 % 2 ^ 32 = s * 2 ^ 32 + mid * 65536 := by omega
  have e1 := carry_nat (s + mid / 65536) p (mid * 65536 % 2 ^ 32) hp (by omega)
  have hlow : (p + mid * 65536 % 2 ^ 32) % 2 ^ 32 < 2 ^ 32 := by omega
  generalize (p + mid * 65536 % 2 ^ 32) % 2 ^ 32 = low at *
  generalize (s + mid / 65536 + if low < p then 1 else 0) = high at *
  have e2 := carry_nat high low t hlow (by omega)
  have hlow2 : (low + t) % 2 ^ 32 < 2 ^ 32 := by omega
  generalize (low + t) % 2 ^ 32 = low2 at *
  generalize (high + if low2 < low then 1 else 0) = high2 at *
  refine ⟨by omega, by omega, by omega, by omega⟩

/-- The magnitude of a word. -/
theorem toNat_absi (a : BitVec 32) : (IntOp.absi a).toNat = a.toInt.natAbs := by
  unfold IntOp.absi
  rw [BitVec.msb_eq_toInt]
  have h := BitVec.toInt_eq_toNat_cond a
  have := a.isLt
  by_cases hn : a.toInt < 0
  · rw [if_pos (by simpa using hn), BitVec.toNat_neg]
    split at h <;> omega
  · rw [if_neg (by simpa using hn)]
    split at h <;> omega

theorem cmpi_slt (x y : BitVec 32) : IntOp.cmpi .slt x y = BitVec.ofBool (decide (x.toInt < y.toInt)) := by
  simp only [IntOp.cmpi, BitVec.slt_eq_decide]
theorem cmpi_sgt (x y : BitVec 32) : IntOp.cmpi .sgt x y = BitVec.ofBool (decide (y.toInt < x.toInt)) := by
  simp only [IntOp.cmpi, BitVec.slt_eq_decide]

theorem toNat_bit (b : Bool) : ((BitVec.ofBool b).setWidth 32).toNat = if b = true then 1 else 0 := by cases b <;> rfl

theorem toNat_carry (x y : BitVec 32) : ((IntOp.cmpi .ult x y).setWidth 32).toNat = if x.toNat < y.toNat then 1 else 0 := by
  show ((BitVec.ofBool (x.ult y)).setWidth 32).toNat = _
  rw [toNat_bit, BitVec.ult_eq_decide]
  simp only [decide_eq_true_eq]

/-- The reference's high product of a magnitude, before its sign is put back. -/
def magWord (m M c : BitVec 32) : BitVec 32 :=
  let mh := IntOp.shrui .host m 16#32
  let ml := IntOp.andi m 65535#32
  let bh := IntOp.shrui .host M 16#32
  let bl := IntOp.andi M 65535#32
  let lo := IntOp.muli ml bl
  let mid := IntOp.addi (IntOp.muli mh bl) (IntOp.muli ml bh)
  let low := IntOp.addi lo (IntOp.shli .host mid 16#32)
  let high := IntOp.addi (IntOp.addi (IntOp.muli mh bh) (IntOp.shrui .host mid 16#32)) ((IntOp.cmpi .ult low lo).setWidth 32)
  let low2 := IntOp.addi low c
  let high2 := IntOp.addi high ((IntOp.cmpi .ult low2 low).setWidth 32)
  IntOp.ori (IntOp.shli .host high2 1#32) (IntOp.shrui .host low2 31#32)

/-- The reference's high product is the magnitude's, with the sign put back. -/
theorem highMul_eq (a m0 : BitVec 32) :
    highMul a m0 = negIf (IntOp.cmpi .slt a 0#32) (magWord (IntOp.absi a) m0 (IntOp.subi 1073741824#32 ((IntOp.cmpi .slt a 0#32).setWidth 32))) := rfl

/-- What the reference's high product of a magnitude is. -/
theorem toNat_magWord (m M c : BitVec 32) (t : ℕ) (hm : m.toNat ≤ 2 ^ 31) (hM : M.toNat < 2 ^ 31) (hc : c.toNat = t) (ht : t ≤ 2 ^ 30) :
    (magWord m M c).toNat = (m.toNat * M.toNat + t) / 2 ^ 31 := by
  obtain ⟨l1, l2, l3, l4⟩ := ref_nat m.toNat M.toNat t hm hM ht
  let mh := IntOp.shrui .host m 16#32
  let ml := IntOp.andi m 65535#32
  let bh := IntOp.shrui .host M 16#32
  let bl := IntOp.andi M 65535#32
  let lo := IntOp.muli ml bl
  let mid := IntOp.addi (IntOp.muli mh bl) (IntOp.muli ml bh)
  let low := IntOp.addi lo (IntOp.shli .host mid 16#32)
  let high := IntOp.addi (IntOp.addi (IntOp.muli mh bh) (IntOp.shrui .host mid 16#32)) ((IntOp.cmpi .ult low lo).setWidth 32)
  let low2 := IntOp.addi low c
  let high2 := IntOp.addi high ((IntOp.cmpi .ult low2 low).setWidth 32)
  have emh : mh.toNat = m.toNat / 65536 := toNat_shrui _ m 16 (by decide)
  have eml : ml.toNat = m.toNat % 65536 := toNat_andi m 16 (by decide) _ rfl
  have ebh : bh.toNat = M.toNat / 65536 := toNat_shrui _ M 16 (by decide)
  have ebl : bl.toNat = M.toNat % 65536 := toNat_andi M 16 (by decide) _ rfl
  have elo : lo.toNat = m.toNat % 65536 * (M.toNat % 65536) := by
    rw [toNat_muli, eml, ebl]; exact Nat.mod_eq_of_lt l1
  have emid : mid.toNat = m.toNat / 65536 * (M.toNat % 65536) + m.toNat % 65536 * (M.toNat / 65536) := by
    rw [toNat_addi, toNat_muli, toNat_muli, emh, eml, ebh, ebl]
    omega
  have elow : low.toNat = (lo.toNat + mid.toNat * 65536 % 2 ^ 32) % 2 ^ 32 := by
    rw [toNat_addi, toNat_shli _ _ 16 (by decide), show (2 : ℕ) ^ 16 = 65536 by decide]
  rw [← emid, ← elo, ← elow] at l3 l4
  have elow2 : low2.toNat = (low.toNat + t) % 2 ^ 32 := by rw [toNat_addi, hc]
  rw [← elow2] at l3 l4
  have ehh : IntOp.muli mh bh = mh * bh := rfl
  have ehigh2 : high2.toNat = m.toNat / 65536 * (M.toNat / 65536) + mid.toNat / 65536 + (if low.toNat < lo.toNat then 1 else 0) + if low2.toNat < low.toNat then 1 else 0 := by
    rw [toNat_addi, toNat_carry, toNat_addi, toNat_carry, toNat_addi, toNat_shrui _ _ 16 (by decide), toNat_muli, emh, ebh]
    generalize m.toNat / 65536 * (M.toNat / 65536) = s at *
    omega
  rw [← ehigh2] at l3 l4
  rw [← l4]
  show (IntOp.shli .host high2 (BitVec.ofNat 32 1) ||| IntOp.shrui .host low2 (BitVec.ofNat 32 31)).toNat = _
  rw [BitVec.toNat_or, toNat_shli _ _ 1 (by decide), toNat_shrui _ _ 31 (by decide)]
  have hb : low2.toNat / 2 ^ 31 < 2 ^ 1 := by have := low2.isLt; omega
  rw [show high2.toNat * 2 ^ 1 % 2 ^ 32 = 2 ^ 1 * high2.toNat by omega, ← Nat.two_pow_add_eq_or_of_lt hb]

/-- Rounding a negative product: the magnitude's quotient, negated, is the product's. -/
theorem neg_int (P : ℕ) (b : -2 ^ 31 + 1 ≤ (-(P : ℤ) + 2 ^ 30) / 2 ^ 31) :
    ((((2 ^ 32 - (P + (2 ^ 30 - 1)) / 2 ^ 31) % 2 ^ 32 : ℕ) : ℤ) - (-(P : ℤ) + 2 ^ 30) / 2 ^ 31) % 2 ^ 32 = 0 := by
  omega
/-- Rounding a product that is not negative. -/
theorem pos_int (P : ℕ) : ((((P + 2 ^ 30) / 2 ^ 31 : ℕ) : ℤ) - ((P : ℤ) + 2 ^ 30) / 2 ^ 31) % 2 ^ 32 = 0 := by
  omega

/-- The reference's high product. -/
theorem highMul_toInt (a m : BitVec 32) (hm : 0 ≤ m.toInt) : (highMul a m).toInt = mulShift a.toInt m.toInt := by
  obtain ⟨b1, b2⟩ := mulShift_bounds a m hm
  have hM : m.toNat < 2 ^ 31 := by
    rw [BitVec.toInt_eq_toNat_cond] at hm; have := m.isLt; split at hm <;> omega
  have hMi : m.toInt = m.toNat := by rw [BitVec.toInt_eq_toNat_cond]; split <;> omega
  have ha1 := BitVec.le_toInt a
  have ha2 := BitVec.toInt_lt (x := a)
  simp only [Nat.add_one_sub_one] at ha1 ha2
  have hA := toNat_absi a
  have hAle : (IntOp.absi a).toNat ≤ 2 ^ 31 := by omega
  by_cases hn : a.toInt < 0
  · have hneg : IntOp.cmpi .slt a 0#32 = 1#1 := by
      rw [cmpi_slt, decide_eq_true (show a.toInt < (0#32 : BitVec 32).toInt from hn)]; rfl
    have key := toNat_magWord (IntOp.absi a) m (IntOp.subi 1073741824#32 ((1#1).setWidth 32)) (2 ^ 30 - 1) hAle hM (by decide) (by omega)
    rw [highMul_eq, hneg]
    unfold negIf
    rw [show ∀ x y : BitVec 32, Scalar.select 1#1 x y = x from fun _ _ => rfl]
    generalize magWord _ _ _ = q at key ⊢
    apply toInt_of_mod _ _ _ (by omega) b2
    rw [BitVec.toNat_neg, key, hA]
    unfold mulShift at *
    have e : a.toInt * m.toInt = -((a.toInt.natAbs * m.toNat : ℕ) : ℤ) := by
      rw [hMi]; push_cast; rw [abs_of_neg hn]; ring
    rw [e] at b1 b2 ⊢
    exact neg_int _ b1
  · have hneg : IntOp.cmpi .slt a 0#32 = 0#1 := by
      rw [cmpi_slt, decide_eq_false (show ¬ a.toInt < (0#32 : BitVec 32).toInt from hn)]; rfl
    have key := toNat_magWord (IntOp.absi a) m (IntOp.subi 1073741824#32 ((0#1).setWidth 32)) (2 ^ 30) hAle hM (by decide) (by omega)
    rw [highMul_eq, hneg]
    unfold negIf
    rw [show ∀ x y : BitVec 32, Scalar.select 0#1 x y = y from fun _ _ => rfl]
    generalize magWord _ _ _ = q at key ⊢
    apply toInt_of_mod _ _ _ (by omega) b2
    rw [key, hA]
    unfold mulShift at *
    have e : a.toInt * m.toInt = ((a.toInt.natAbs * m.toNat : ℕ) : ℤ) := by
      rw [hMi]; push_cast; rw [abs_of_nonneg (by omega)]
    rw [e] at b1 b2 ⊢
    exact pos_int _

/-- The kernel's high product of a biased accumulator is the reference's of the accumulator. -/
theorem kerHigh_eq (a m : BitVec 32) (hm : 0 ≤ m.toInt) : kerHigh (a + 2147483648#32) m = highMul a m :=
  BitVec.eq_of_toInt_eq ((kerHigh_toInt a m hm).trans (highMul_toInt a m hm).symm)

/-- The arithmetic shift right is the division by the power of two, rounded down. -/
theorem toInt_shrsi (c : ArithUnit) (x e : BitVec 32) (k : ℕ) (he : e.toNat = k) (hk : k < 32) : (IntOp.shrsi c x e).toInt = x.toInt / 2 ^ k := by
  unfold IntOp.shrsi
  rw [he, if_pos hk, BitVec.sshiftRight_eq', BitVec.toInt_sshiftRight, he, Int.shiftRight_eq_div_pow]
  norm_cast

/-- A word that a comparison makes is one or zero. -/
theorem toInt_bit (b : Bool) : ((BitVec.ofBool b).setWidth 32).toInt = if b = true then 1 else 0 := by cases b <;> rfl

/-- A sum of words whose exact sum fits. -/
theorem toInt_addi (x y : BitVec 32) (h1 : -2 ^ 31 ≤ x.toInt + y.toInt) (h2 : x.toInt + y.toInt < 2 ^ 31) :
    (IntOp.addi x y).toInt = x.toInt + y.toInt := by
  have hx := toNat_mod x
  have hy := toNat_mod y
  apply toInt_of_mod _ _ _ h1 h2
  rw [toNat_addi]
  omega

/-- What the reference's rounding division is on integers. -/
theorem roundingDivide_toInt (h e : BitVec 32) (k : ℕ) (he : e.toNat = k + 1) (hk : k < 31) :
    (roundingDivide h e).toInt
      = h.toInt / 2 ^ (k + 1) + if 2 ^ k - 1 + (if h.toInt < 0 then 1 else 0) < h.toInt % 2 ^ (k + 1) then 1 else 0 := by
  have hp : (2 : ℕ) ^ (k + 1) = 2 * 2 ^ k := by ring
  have hpi : (2 : ℤ) ^ (k + 1) = 2 * 2 ^ k := by ring
  have hle : (2 : ℕ) ^ k ≤ 2 ^ 30 := Nat.pow_le_pow_right (by decide) (by omega)
  have hpos : 0 < (2 : ℕ) ^ k := Nat.pow_pos (by decide)
  have hcast : ((2 ^ k : ℕ) : ℤ) = (2 : ℤ) ^ k := by push_cast; rfl
  have hE : e = BitVec.ofNat 32 (k + 1) := BitVec.eq_of_toNat_eq (by rw [he, BitVec.toNat_ofNat]; omega)
  have hmask : (IntOp.subi (IntOp.shli .host 1#32 e) 1#32).toNat = 2 ^ (k + 1) - 1 := by
    rw [hE]
    show (IntOp.shli .host 1#32 (BitVec.ofNat 32 (k + 1)) - 1#32).toNat = _
    rw [BitVec.toNat_sub, toNat_shli _ _ (k + 1) (by omega), hp]
    show (2 ^ 32 - 1 + 1 * (2 * 2 ^ k) % 2 ^ 32) % 2 ^ 32 = _
    omega
  have hrem := toNat_andi h (k + 1) (by omega) _ hmask
  unfold roundingDivide
  dsimp only
  generalize hM : IntOp.subi (IntOp.shli .host 1#32 e) 1#32 = mask at *
  have hmi : mask.toInt = 2 * 2 ^ k - 1 := by
    rw [BitVec.toInt_eq_toNat_cond, hmask]; split <;> omega
  have hhalf : (IntOp.shrsi .host mask 1#32).toInt = 2 ^ k - 1 := by
    rw [toInt_shrsi _ _ _ 1 rfl (by decide), hmi]; omega
  have hri : (IntOp.andi h mask).toInt = h.toInt % 2 ^ (k + 1) := by
    have h1 := toNat_mod h
    have h2 : (IntOp.andi h mask).toInt = ((h.toNat % 2 ^ (k + 1) : ℕ) : ℤ) := by
      rw [BitVec.toInt_eq_toNat_cond, hrem]
      have : h.toNat % 2 ^ (k + 1) < 2 ^ (k + 1) := Nat.mod_lt _ (by omega)
      split <;> omega
    rw [h2]
    push_cast
    have h3 : ((2 : ℤ) ^ (k + 1)) ∣ 2 ^ 32 := pow_dvd_pow 2 (by omega)
    exact Int.emod_eq_emod_iff_emod_sub_eq_zero.mpr (Int.emod_eq_zero_of_dvd (h3.trans (Int.dvd_of_emod_eq_zero h1)))
  have hneg : IntOp.cmpi .slt h 0#32 = BitVec.ofBool (decide (h.toInt < 0)) := cmpi_slt h 0#32
  have hbit : ((IntOp.cmpi .slt h 0#32).setWidth 32).toInt = if h.toInt < 0 then 1 else 0 := by
    rw [hneg, toInt_bit]; simp only [decide_eq_true_eq]
  have hthr : (IntOp.addi (IntOp.shrsi .host mask 1#32) ((IntOp.cmpi .slt h 0#32).setWidth 32)).toInt = 2 ^ k - 1 + if h.toInt < 0 then 1 else 0 := by
    rw [toInt_addi, hhalf, hbit]
    all_goals rw [hhalf, hbit]; split <;> omega
  have hc : ((IntOp.cmpi .sgt (IntOp.andi h mask) (IntOp.addi (IntOp.shrsi .host mask 1#32) ((IntOp.cmpi .slt h 0#32).setWidth 32))).setWidth 32).toInt
      = if 2 ^ k - 1 + (if h.toInt < 0 then 1 else 0) < h.toInt % 2 ^ (k + 1) then 1 else 0 := by
    rw [cmpi_sgt, toInt_bit, hri, hthr]; simp only [decide_eq_true_eq]
  have hs := toInt_shrsi .host h e (k + 1) he (by omega)
  have hb1 := BitVec.le_toInt h
  have hb2 := BitVec.toInt_lt (x := h)
  simp only [Nat.add_one_sub_one] at hb1 hb2
  have hq : -2 ^ 30 ≤ h.toInt / 2 ^ (k + 1) ∧ h.toInt / 2 ^ (k + 1) < 2 ^ 30 := by
    have h2 : (2 : ℤ) ≤ 2 ^ (k + 1) := by omega
    constructor
    · rw [Int.le_ediv_iff_mul_le (by omega)]; nlinarith
    · rw [Int.ediv_lt_iff_lt_mul (by omega)]; nlinarith
  rw [toInt_addi, hs, hc]
  all_goals rw [hs, hc]; split <;> omega

/-- The kernel's division of the number lowered by one where it is negative, with twice the offset and one added before
    the last halving, is the reference's rounding division with the offset. -/
theorem divide_int (H Y : ℤ) (k : ℕ) (h1 : -2 ^ 31 ≤ H) (h2 : H < 2 ^ 31) :
    ((H + H / 2 ^ 31) / 2 ^ k + (2 * Y + 1)) / 2
      = H / 2 ^ (k + 1) + (if 2 ^ k - 1 + (if H < 0 then 1 else 0) < H % 2 ^ (k + 1) then 1 else 0) + Y := by
  have hpi : (2 : ℤ) ^ (k + 1) = 2 * 2 ^ k := by ring
  have hpos : 0 < (2 : ℤ) ^ k := by positivity
  rw [hpi]
  generalize (2 : ℤ) ^ k = p at *
  have hn : H / 2 ^ 31 = -(if H < 0 then 1 else 0) := by split <;> omega
  have hn2 : (if H < 0 then 1 else 0 : ℤ) = 0 ∨ (if H < 0 then 1 else 0 : ℤ) = 1 := by split <;> simp
  rw [hn]
  generalize (if H < 0 then 1 else 0 : ℤ) = n at *
  have hr0 := Int.emod_nonneg H (show 2 * p ≠ 0 by omega)
  have hr1 := Int.emod_lt_of_pos H (show 0 < 2 * p by omega)
  have hH := Int.emod_add_mul_ediv H (2 * p)
  generalize H % (2 * p) = r at *
  generalize H / (2 * p) = q at *
  have e : H + -n = (r - n) + p * (2 * q) := by rw [← hH]; ring
  rw [e, Int.add_mul_ediv_left _ _ (by omega)]
  have d1 := Int.le_ediv_iff_mul_le (a := 1) (b := r - n) hpos
  have d2 := Int.ediv_lt_iff_lt_mul (a := r - n) (b := 2) hpos
  have d3 := Int.le_ediv_iff_mul_le (a := -1) (b := r - n) hpos
  generalize (r - n) / p = d at *
  split <;> omega

/-- The kernel's lowered number, shifted, leaves room for the offset. -/
theorem shift_bound (H : ℤ) (k : ℕ) (h1 : -2 ^ 31 + 1 ≤ H) (h2 : H < 2 ^ 31) (h : 1 ≤ k ∨ |H| ≤ 1539841024) :
    -1539841025 ≤ (H + H / 2 ^ 31) / 2 ^ k ∧ (H + H / 2 ^ 31) / 2 ^ k ≤ 1539841024 := by
  by_cases hk : 1 ≤ k
  · obtain ⟨k, rfl⟩ : ∃ j, k = j + 1 := ⟨k - 1, by omega⟩
    have hpos : 1 ≤ (2 : ℤ) ^ k := one_le_pow₀ (by norm_num)
    have hp : (2 : ℤ) ^ (k + 1) = 2 * 2 ^ k := by ring
    rw [hp]
    have hb : -2 ^ 31 ≤ H + H / 2 ^ 31 ∧ H + H / 2 ^ 31 < 2 ^ 31 := by omega
    generalize H + H / 2 ^ 31 = z at *
    constructor
    · rw [Int.le_ediv_iff_mul_le (by omega)]; nlinarith
    · refine Int.le_of_lt_add_one ?_
      rw [Int.ediv_lt_iff_lt_mul (by omega)]; nlinarith
  · obtain rfl : k = 0 := by omega
    have := abs_le.mp (h.resolve_left (by omega))
    rw [pow_zero, Int.ediv_one]
    omega

/-- The high product is no larger than the accumulator. -/
theorem mulShift_abs (a m : ℤ) (hm : 0 ≤ m) (hm2 : m < 2 ^ 31) (B : ℤ) (h : |a| ≤ B) : |mulShift a m| ≤ B := by
  obtain ⟨h1, h2⟩ := abs_le.mp h
  unfold mulShift
  have hB : 0 ≤ B := le_trans (abs_nonneg a) h
  rw [abs_le]
  constructor
  · rw [Int.le_ediv_iff_mul_le (by norm_num)]; nlinarith [mul_nonneg hm hB, mul_nonneg hm (show 0 ≤ a + B by linarith), mul_nonneg hB (show 0 ≤ 2 ^ 31 - m by linarith)]
  · refine Int.le_of_lt_add_one ?_
    rw [Int.ediv_lt_iff_lt_mul (by norm_num)]; nlinarith [mul_nonneg hm (show 0 ≤ B - a by linarith), mul_nonneg hB (show 0 ≤ 2 ^ 31 - m by linarith)]

/-- The kernel's requantisation of the biased accumulator is the reference's of the accumulator, where the last sum
    does not overflow. -/
theorem requant_eq (acc m0 sh y : BitVec 32) (hm : 0 ≤ m0.toInt) (hs1 : 1 ≤ sh.toInt) (hs2 : sh.toInt ≤ 31)
    (hy1 : -2 ^ 28 ≤ y.toInt) (hy2 : y.toInt ≤ 2 ^ 28) (h : 2 ≤ sh.toInt ∨ |acc.toInt| ≤ 1539841024) :
    kerWord (acc + 2147483648#32) m0 sh (IntOp.addi (IntOp.muli 2#32 y) 1#32) = refWord acc m0 sh y := by
  have hsn : sh.toInt = sh.toNat := by
    rw [BitVec.toInt_eq_toNat_cond] at hs1 ⊢; have := sh.isLt; split at hs1 <;> simp_all <;> omega
  obtain ⟨k, hk⟩ : ∃ k, sh.toNat = k + 1 := ⟨sh.toNat - 1, by omega⟩
  unfold kerWord refWord
  rw [kerHigh_eq acc m0 hm]
  have hH := highMul_toInt acc m0 hm
  obtain ⟨b1, b2⟩ := mulShift_bounds acc m0 hm
  have hb : 1 ≤ k ∨ |mulShift acc.toInt m0.toInt| ≤ 1539841024 := by
    rcases h with h | h
    · left; omega
    · right; exact mulShift_abs _ _ hm (BitVec.toInt_lt (x := m0)) _ h
  rw [← hH] at b1 b2 hb
  generalize highMul acc m0 = hw at *
  obtain ⟨c1, c2⟩ := shift_bound hw.toInt k b1 b2 hb
  have hy2' : (IntOp.addi (IntOp.muli 2#32 y) 1#32).toInt = 2 * y.toInt + 1 := by
    have hy := toNat_mod y
    apply toInt_of_mod _ _ _ (by omega) (by omega)
    rw [toNat_addi, toNat_muli]
    show ((((2 * y.toNat) % 2 ^ 32 + 1) % 2 ^ 32 : ℕ) - (2 * y.toInt + 1)) % 2 ^ 32 = 0
    omega
  have e31 : (IntOp.shrsi .vector hw 31#32).toInt = hw.toInt / 2 ^ 31 := toInt_shrsi _ _ _ 31 rfl (by decide)
  have el : (IntOp.addi hw (IntOp.shrsi .vector hw 31#32)).toInt = hw.toInt + hw.toInt / 2 ^ 31 := by
    rw [toInt_addi, e31] <;> rw [e31] <;> omega
  have es : (IntOp.subi sh 1#32).toNat = k := by
    show (sh - 1#32).toNat = k
    rw [BitVec.toNat_sub, hk]
    show (2 ^ 32 - 1 + (k + 1)) % 2 ^ 32 = k
    omega
  have ep := toInt_shrsi .vector (IntOp.addi hw (IntOp.shrsi .vector hw 31#32)) _ k es (by omega)
  rw [el] at ep
  have key : kerDivide hw sh (IntOp.addi (IntOp.muli 2#32 y) 1#32) = IntOp.addi (roundingDivide hw sh) y := by
    have ed := divide_int hw.toInt y.toInt k (by omega) b2
    have er := roundingDivide_toInt hw sh k hk (by omega)
    apply BitVec.eq_of_toInt_eq
    unfold kerDivide
    rw [toInt_shrsi _ _ _ 1 rfl (by decide), toInt_addi, ep, hy2', pow_one, ed, ← er]
    · rw [← er] at ed
      rw [toInt_addi] <;> omega
    all_goals rw [ep, hy2']; omega
  rw [key]

end Cert.Words
-- ==== Proof.Tie.lean ====
/-
  The kernel and the reference leave the same result: at every element both hold the same requantised accumulator, and under
  the precondition the kernel's way of rounding and the reference's agree (`requant_eq`).
-/
module

public import proofs.«01_k».proof.Defs
public import proofs.«01_k».proof.Proof.Final
public import proofs.«01_k».proof.Proof.Pre
public import proofs.«01_k».proof.Proof.Ref
public import proofs.«01_k».proof.Proof.Requant
public import proofs.«01_k».proof.Proof.Ints

@[expose] public section

set_option maxRecDepth 16384

noncomputable section

namespace Cert.Proof

open Idealize.ShloMosaic Idealize.ShloMosaic.TcCoe Idealize.SL.Sem Cert.Words

/-- The requantisation of one accumulator, kernel against reference, from the precondition's inequalities. -/
theorem word_eq (x w : Fin 7168 → BitVec 8) (xz wz bias m0 sh y : BitVec 32)
    (h : 0 ≤ m0.toInt ∧ 1 ≤ sh.toInt ∧ sh.toInt ≤ 31 ∧ -2 ^ 28 ≤ y.toInt ∧ y.toInt ≤ 2 ^ 28
      ∧ (2 ≤ sh.toInt ∨ ((0 ≤ xz.toInt ∧ xz.toInt ≤ 255) ∧ (0 ≤ wz.toInt ∧ wz.toInt ≤ 255)
        ∧ -1073741824 ≤ bias.toInt ∧ bias.toInt ≤ 1073741824))) :
    kerWord (accWord x w xz wz bias + 2147483648#32) m0 sh (IntOp.addi (IntOp.muli 2#32 y) 1#32) = refWord (accWord x w xz wz bias) m0 sh y := by
  obtain ⟨hm, hs1, hs2, hy1, hy2, h⟩ := h
  refine requant_eq _ m0 sh y hm hs1 hs2 hy1 hy2 (h.imp id fun h => ?_)
  exact abs_accWord x w xz wz bias h.1.1 h.1.2 h.2.1.1 h.2.1.2 h.2.2.1 h.2.2.2

/-- The word the reference leaves at an element of its result, in its own arguments. -/
theorem ref_word (m' : (ℓ : Loc Cert.ReferenceIdeal.nD Cert.ReferenceIdeal.τ Cert.ReferenceIdeal.sig) → Buf (Elt Ideal) ℓ)
    (c : Dev Cert.ReferenceIdeal.nD) (b : Fin 24) (s : Fin 1024) (n : Fin 2048) :
    (Cert.ReferenceIdeal.Value.val3 (StableHlo.launchContents m' c) (Proc.devRef .tc Cert.ReferenceIdeal.main_v104) : IVec Cert.ReferenceIdeal.S24x1024x2048 8) (ix3 b s n)
      = refWord (accWord (fun k => (m' ((c.tc : Thread Cert.ReferenceIdeal.nD Cert.ReferenceIdeal.τ).loc Cert.ReferenceIdeal.main_arg0) : IVec Cert.ReferenceIdeal.S24x1024x7168 8) (ix3 b s k))
          (fun k => (m' ((c.tc : Thread Cert.ReferenceIdeal.nD Cert.ReferenceIdeal.τ).loc Cert.ReferenceIdeal.main_arg2) : IVec Cert.ReferenceIdeal.S7168x2048 8) (ix2 k n))
          ((m' ((c.tc : Thread Cert.ReferenceIdeal.nD Cert.ReferenceIdeal.τ).loc Cert.ReferenceIdeal.main_arg1) : IVec Cert.ReferenceIdeal.S_ 32) ix0)
          ((m' ((c.tc : Thread Cert.ReferenceIdeal.nD Cert.ReferenceIdeal.τ).loc Cert.ReferenceIdeal.main_arg3) : IVec Cert.ReferenceIdeal.S2048 32) (ix1 n))
          ((m' ((c.tc : Thread Cert.ReferenceIdeal.nD Cert.ReferenceIdeal.τ).loc Cert.ReferenceIdeal.main_arg4) : IVec Cert.ReferenceIdeal.S2048 32) (ix1 n)))
        ((m' ((c.tc : Thread Cert.ReferenceIdeal.nD Cert.ReferenceIdeal.τ).loc Cert.ReferenceIdeal.main_arg5) : IVec Cert.ReferenceIdeal.S2048 32) (ix1 n))
        ((m' ((c.tc : Thread Cert.ReferenceIdeal.nD Cert.ReferenceIdeal.τ).loc Cert.ReferenceIdeal.main_arg6) : IVec Cert.ReferenceIdeal.S2048 32) (ix1 n))
        ((m' ((c.tc : Thread Cert.ReferenceIdeal.nD Cert.ReferenceIdeal.τ).loc Cert.ReferenceIdeal.main_arg7) : IVec Cert.ReferenceIdeal.S_ 32) ix0) := by
  rw [Cert.ReferenceIdeal.Value.out_at, Cert.ReferenceIdeal.Value.acc_at]

/-- From memories that agree on the arguments and satisfy the precondition, the kernel and the reference end with equal results
    and unchanged arguments. -/
theorem algebraic : Cert.algebraic_KernelIdeal_ReferenceIdeal_pre_no_overflow (hKernelIdeal := Cert.KernelIdeal.Gen.facts)
    (hReferenceIdeal := Cert.ReferenceIdeal.Gen.facts) (hPre_no_overflow := Cert.Pre_no_overflow.Gen.facts) := by
  intro m g m' g' hpre hagree
  refine ⟨fun c => fun i : Cert.KernelIdeal.S24x1024x2048.Idx => Cert.KernelIdeal.Body.outWord m c (i 0) (i 1) (i 2), ?_, ?_⟩
  · refine (θ_run Cert.KernelIdeal.defs _ _).mono (fun r h c => ⟨?_, h.2.1 c⟩) (Cert.KernelIdeal.Body.run m g)
    refine funext fun (i : Cert.KernelIdeal.S24x1024x2048.Idx) => ?_
    have e := h.1 c (i 0) (i 1) (i 2)
    rw [← eq_ix3 i] at e
    exact e
  · refine (θ_run Cert.ReferenceIdeal.defs _ _).mono (fun r h c => ⟨?_, (h c).2⟩) (Cert.ReferenceIdeal.Value.run m' g')
    refine ((h c).1.trans (Cert.ReferenceIdeal.Value.val3_main_v104 (StableHlo.launchContents m' c)).symm).trans ?_
    refine funext fun (i : Cert.KernelIdeal.S24x1024x2048.Idx) => ?_
    have e := ref_word m' c (i 0) (i 1) (i 2)
    rw [← eq_ix3 i] at e
    refine e.trans ?_
    obtain ⟨h0, h1, h2, h3, h4, h5, h6, h7⟩ := hagree c
    rw [h0, h1, h2, h3, h4, h5, h6, h7]
    exact (word_eq _ _ _ _ _ _ _ _ (Cert.Pre_no_overflow.Gen.pre_word _ _ _ _ _ _ _ _ (hpre c) (i 2))).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Tie
public import Idealize.ShloMosaic.Adequacy
public import Idealize.ShloMosaic.Init

@[expose] public section

noncomputable section

namespace Cert.Proof

open Idealize.ShloMosaic Idealize.SL.Sem Cert.Kernel

/-- Everything the certificate claims: the frames of the three programs, that the idealised kernel is the kernel, and that
    the idealised kernel and the reference end with equal results under the precondition. -/
theorem claim : Cert.Claim := ⟨Cert.Kernel.Gen.facts, Cert.KernelIdeal.Gen.facts, Cert.ReferenceIdeal.Gen.facts, Cert.Pre_no_overflow.Gen.facts,
  fun m ρ _ => Cert.Kernel.Body.frame m ρ, fun m ρ _ => Cert.KernelIdeal.Body.frame m ρ, fun m ρ _ => Cert.KernelIdeal.Body.frame m ρ,
  fun m ρ _ => Cert.ReferenceIdeal.Value.frame m ρ, fun m ρ _ => Cert.ReferenceIdeal.Value.frame m ρ, trivial, algebraic⟩

end Cert.Proof

end
